-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![1, 2048, 2, 128]⟩ ⟨4, ![1, 32768, 2, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 2048, 2, 128]⟩ ⟨4, ![1, 32768, 2, 128]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x512x1024 : Shape := ⟨3, ![1, 512, 1024]⟩
abbrev S1024x1024 : Shape := ⟨2, ![1024, 1024]⟩
abbrev S1x2048x2x128 : Shape := ⟨4, ![1, 2048, 2, 128]⟩
abbrev S_ : Shape := ⟨0, ![]⟩

class Facts : Prop where
  bitsLt_bf16_f32 : FTy.bits .bf16 < FTy.bits .f32
  bcast_S_S1x512x1024 : S_.BroadcastsInDim S1x512x1024 (![] : Fin 0 → Fin S1x512x1024.rank)
  bcast_S_S1024x1024 : S_.BroadcastsInDim S1024x1024 (![] : Fin 0 → Fin S1024x1024.rank)
  bcast_S_S1x2048x2x128 : S_.BroadcastsInDim S1x2048x2x128 (![] : Fin 0 → Fin S1x2048x2x128.rank)

variable [Facts]

def fn {F : FTy → Type} [FloatOps F] (main_arg0 : FVec F S1x512x1024 .bf16) (main_arg1 : FVec F S1024x1024 .bf16) (main_arg2 : FVec F S1024x1024 .bf16) (main_arg3 : FVec F S1x2048x2x128 .bf16) (main_arg4 : FVec F S1x2048x2x128 .bf16) : IVec S1x512x1024 1 × IVec S1024x1024 1 × IVec S1x2048x2x128 1 :=
  let main_v0 : FVec F S1x512x1024 .f32 := (extf .f32 · bitsLt_bf16_f32) main_arg0
  let main_v1 : FVec F S1x512x1024 .f32 := Host.absf main_v0
  let main_cst : FVec F S_ .f32 := constant S_ .f32 0x7F800000#32
  let main_v2 : FVec F S1x512x1024 .f32 := broadcastInDim S1x512x1024 ![] bcast_S_S1x512x1024 main_cst
  let main_v3 : IVec S1x512x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x2048x2x128 .f32 := (extf .f32 · bitsLt_bf16_f32) main_arg3
  let main_v9 : FVec F S1x2048x2x128 .f32 := Host.absf main_v8
  let main_cst_1 : FVec F S_ .f32 := constant S_ .f32 0x7F800000#32
  let main_v10 : FVec F S1x2048x2x128 .f32 := broadcastInDim S1x2048x2x128 ![] bcast_S_S1x2048x2x128 main_cst_1
  let main_v11 : IVec S1x2048x2x128 1 := cmpf .olt main_v9 main_v10
  (main_v3, main_v7, main_v11)
-- ==== Pre_finite_scores_ReferenceIdeal.lean ====
abbrev S1x512x1024 : Shape := ⟨3, ![1, 512, 1024]⟩
abbrev S1024x1024 : Shape := ⟨2, ![1024, 1024]⟩
abbrev S1x32768x2x128 : Shape := ⟨4, ![1, 32768, 2, 128]⟩
abbrev S_ : Shape := ⟨0, ![]⟩

class Facts : Prop where
  bitsLt_bf16_f32 : FTy.bits .bf16 < FTy.bits .f32
  bcast_S_S1x512x1024 : S_.BroadcastsInDim S1x512x1024 (![] : Fin 0 → Fin S1x512x1024.rank)
  bcast_S_S1024x1024 : S_.BroadcastsInDim S1024x1024 (![] : Fin 0 → Fin S1024x1024.rank)
  bcast_S_S1x32768x2x128 : S_.BroadcastsInDim S1x32768x2x128 (![] : Fin 0 → Fin S1x32768x2x128.rank)

variable [Facts]

def fn {F : FTy → Type} [FloatOps F] (main_arg0 : FVec F S1x512x1024 .bf16) (main_arg1 : FVec F S1024x1024 .bf16) (main_arg2 : FVec F S1024x1024 .bf16) (main_arg3 : FVec F S1x32768x2x128 .bf16) (main_arg4 : FVec F S1x32768x2x128 .bf16) : IVec S1x512x1024 1 × IVec S1024x1024 1 × IVec S1x32768x2x128 1 :=
  let main_v0 : FVec F S1x512x1024 .f32 := (extf .f32 · bitsLt_bf16_f32) main_arg0
  let main_v1 : FVec F S1x512x1024 .f32 := Host.absf main_v0
  let main_cst : FVec F S_ .f32 := constant S_ .f32 0x7F800000#32
  let main_v2 : FVec F S1x512x1024 .f32 := broadcastInDim S1x512x1024 ![] bcast_S_S1x512x1024 main_cst
  let main_v3 : IVec S1x512x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x32768x2x128 .f32 := (extf .f32 · bitsLt_bf16_f32) main_arg3
  let main_v9 : FVec F S1x32768x2x128 .f32 := Host.absf main_v8
  let main_cst_1 : FVec F S_ .f32 := constant S_ .f32 0x7F800000#32
  let main_v10 : FVec F S1x32768x2x128 .f32 := broadcastInDim S1x32768x2x128 ![] bcast_S_S1x32768x2x128 main_cst_1
  let main_v11 : IVec S1x32768x2x128 1 := cmpf .olt main_v9 main_v10
  (main_v3, main_v7, main_v11)
-- ==== Kernel.lean ====
abbrev S1x512x1024 : Shape := ⟨3, ![1, 512, 1024]⟩
abbrev S1024x1024 : Shape := ⟨2, ![1024, 1024]⟩
abbrev S1x2048x2x128 : Shape := ⟨4, ![1, 2048, 2, 128]⟩
abbrev S512x1024 : Shape := ⟨2, ![512, 1024]⟩
abbrev S512x8 : Shape := ⟨2, ![512, 8]⟩
abbrev S4x512x1024 : Shape := ⟨3, ![4, 512, 1024]⟩
abbrev S4x512x8 : Shape := ⟨3, ![4, 512, 8]⟩
abbrev S4 : Shape := ⟨1, ![4]⟩
abbrev S_ : Shape := ⟨0, ![]⟩
abbrev S2048x2x128 : Shape := ⟨3, ![2048, 2, 128]⟩
abbrev S2048x256 : Shape := ⟨2, ![2048, 256]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x512x8 : Shape := ⟨3, ![1, 512, 8]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1x2048x2x128, .bf16⟩
  | .hbm, ⟨4, _⟩ => ⟨S1x2048x2x128, .bf16⟩
  | .hbm, ⟨5, _⟩ => ⟨S1x512x1024, .f32⟩
  | .local _ .vmem, ⟨0, _⟩ => ⟨S1x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x2048x2x128, .bf16⟩
  | .local _ .vmem, ⟨4, _⟩ => ⟨S1x2048x2x128, .bf16⟩
  | .local _ .vmem, ⟨5, _⟩ => ⟨S1x512x1024, .f32⟩
  | .local _ .vmem, ⟨6, _⟩ => ⟨S512x1024, .bf16⟩
  | .local _ .vmem, ⟨7, _⟩ => ⟨S512x8, .f32⟩
  | .local _ .vmem, ⟨8, _⟩ => ⟨S4x512x1024, .bf16⟩
  | .local _ .vmem, ⟨9, _⟩ => ⟨S4x512x8, .f32⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_4 : BitVec 32 := 1#32
  let v10 : BitVec 32 := Scalar.muli v4 c1_i32_4
  let v11 : BitVec 32 := Scalar.addi c0_i32_5 v10
  v11.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_7 : BitVec 32 := 1#32
  let v12 : BitVec 32 := Scalar.muli v5 c1_i32_7
  let v13 : BitVec 32 := Scalar.addi c0_i32_8 v12
  v13.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_10 : BitVec 32 := 1#32
  let v14 : BitVec 32 := Scalar.muli v6 c1_i32_10
  let v15 : BitVec 32 := Scalar.addi c0_i32_11 v14
  v15.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_57 : BitVec 32 := 1#32
  let v111 : BitVec 32 := Scalar.muli v3 c1_i32_57
  let v112 : BitVec 32 := Scalar.addi c0_i32_58 v111
  v112.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_64 : BitVec 32 := 1#32
  let v119 : BitVec 32 := Scalar.muli v3 c1_i32_64
  let v120 : BitVec 32 := Scalar.addi c0_i32_65 v119
  v120.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_107 : BitVec 32 := 1#32
  let v161 : BitVec 32 := Scalar.muli v4 c1_i32_107
  let v162 : BitVec 32 := Scalar.addi c0_i32_108 v161
  v162.toNat
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_114 : BitVec 32 := 1#32
  let v169 : BitVec 32 := Scalar.muli v4 c1_i32_114
  let v170 : BitVec 32 := Scalar.addi c0_i32_115 v169
  v170.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_156 : BitVec 32 := 1#32
  let v211 : BitVec 32 := Scalar.muli v5 c1_i32_156
  let v212 : BitVec 32 := Scalar.addi c0_i32_157 v211
  v212.toNat
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_163 : BitVec 32 := 1#32
  let v219 : BitVec 32 := Scalar.muli v5 c1_i32_163
  let v220 : BitVec 32 := Scalar.addi c0_i32_164 v219
  v220.toNat
def k0_dev11 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_204 : BitVec 32 := 1#32
  let v261 : BitVec 32 := Scalar.muli v6 c1_i32_204
  let v262 : BitVec 32 := Scalar.addi c0_i32_205 v261
  v262.toNat
def k0_dev12 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_211 : BitVec 32 := 1#32
  let v269 : BitVec 32 := Scalar.muli v6 c1_i32_211
  let v270 : BitVec 32 := Scalar.addi c0_i32_212 v269
  v270.toNat
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x512x1024 : Shape := ⟨3, ![1, 512, 1024]⟩
abbrev S1024x1024 : Shape := ⟨2, ![1024, 1024]⟩
abbrev S1x32768x2x128 : Shape := ⟨4, ![1, 32768, 2, 128]⟩
abbrev S1x512x8x128 : Shape := ⟨4, ![1, 512, 8, 128]⟩
abbrev S1x32768x2x4x128 : Shape := ⟨5, ![1, 32768, 2, 4, 128]⟩
abbrev S1x32768x8x128 : Shape := ⟨4, ![1, 32768, 8, 128]⟩
abbrev S1x8x512x32768 : Shape := ⟨4, ![1, 8, 512, 32768]⟩
abbrev S_ : Shape := ⟨0, ![]⟩
abbrev S1x8x512 : Shape := ⟨3, ![1, 8, 512]⟩
abbrev S1x8x512x1 : Shape := ⟨4, ![1, 8, 512, 1]⟩
abbrev S1x8x128x512 : Shape := ⟨4, ![1, 8, 128, 512]⟩
abbrev S1x512x8x1 : Shape := ⟨4, ![1, 512, 8, 1]⟩

abbrev nBuf : Space → Nat
  | .hbm => 37
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1x32768x2x128, .bf16⟩
  | .hbm, ⟨4, _⟩ => ⟨S1x32768x2x128, .bf16⟩
  | .hbm, ⟨5, _⟩ => ⟨S1x512x1024, .f32⟩
  | .hbm, ⟨6, _⟩ => ⟨S1x512x1024, .bf16⟩
  | .hbm, ⟨7, _⟩ => ⟨S1x512x8x128, .bf16⟩
  | .hbm, ⟨8, _⟩ => ⟨S1x32768x2x4x128, .bf16⟩
  | .hbm, ⟨9, _⟩ => ⟨S1x32768x8x128, .bf16⟩
  | .hbm, ⟨10, _⟩ => ⟨S1x32768x2x4x128, .bf16⟩
  | .hbm, ⟨11, _⟩ => ⟨S1x32768x8x128, .bf16⟩
  | .hbm, ⟨12, _⟩ => ⟨S1x8x512x32768, .f32⟩
  | .hbm, ⟨13, _⟩ => ⟨S1x8x512x32768, .bf16⟩
  | .hbm, ⟨14, _⟩ => ⟨S1x8x512x32768, .f32⟩
  | .hbm, ⟨15, _⟩ => ⟨S_, .f32⟩
  | .hbm, ⟨16, _⟩ => ⟨S_, .f32⟩
  | .hbm, ⟨17, _⟩ => ⟨S1x8x512x32768, .f32⟩
  | .hbm, ⟨18, _⟩ => ⟨S1x8x512x32768, .f32⟩
  | .hbm, ⟨19, _⟩ => ⟨S_, .f32⟩
  | .hbm, ⟨20, _⟩ => ⟨S1x8x512, .f32⟩
  | .hbm, ⟨21, _⟩ => ⟨S1x8x512x1, .f32⟩
  | .hbm, ⟨22, _⟩ => ⟨S1x8x512x32768, .f32⟩
  | .hbm, ⟨23, _⟩ => ⟨S1x8x512x32768, .f32⟩
  | .hbm, ⟨24, _⟩ => ⟨S1x8x512x32768, .f32⟩
  | .hbm, ⟨25, _⟩ => ⟨S_, .f32⟩
  | .hbm, ⟨26, _⟩ => ⟨S1x8x512, .f32⟩
  | .hbm, ⟨27, _⟩ => ⟨S1x8x512x1, .f32⟩
  | .hbm, ⟨28, _⟩ => ⟨S1x32768x8x128, .f32⟩
  | .hbm, ⟨29, _⟩ => ⟨S1x8x128x512, .f32⟩
  | .hbm, ⟨30, _⟩ => ⟨S1x512x8x128, .f32⟩
  | .hbm, ⟨31, _⟩ => ⟨S1x512x8x1, .f32⟩
  | .hbm, ⟨32, _⟩ => ⟨S1x512x8x128, .f32⟩
  | .hbm, ⟨33, _⟩ => ⟨S1x512x8x128, .f32⟩
  | .hbm, ⟨34, _⟩ => ⟨S1x512x1024, .f32⟩
  | .hbm, ⟨35, _⟩ => ⟨S1024x1024, .f32⟩
  | .hbm, ⟨36, _⟩ => ⟨S1x512x1024, .f32⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.KernelIdeal.Cells.lean ====
/-
# The devices, buffers and semaphore cells of the all-reduce

Sixteen devices add up their partial results in four rounds. In round `r` a device exchanges its running
totals with the device whose number differs in bit `r`. This module names that partner, the buffers a message
leaves from and lands in, the semaphore cells it is counted on, and the contents every message carries.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Ring
public import Idealize.ShloMosaic.Lib.Rounds
public import Idealize.ShloMosaic.Lib.Memref
public import Idealize.ShloMosaic.Lib.Pipeline.Launch
public import Idealize.ShloMosaic.Lib.Pipeline.Kit
public import Idealize.ShloMosaic.Lib.Tactic

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Two ghost accounts: the pipeline's own and the protocol's. -/
abbrev UU : Type := UR sig nD τ × URounds (GSem nD τ sig) (Fin 4)

local notation "𝕄" => MT nD τ sig Unit (Elt F) ℕ UU ℕ

/-! ## The partner -/

/-- The device whose number differs from `c`'s in bit `r` (of four). -/
def peer (r : ℕ) (c : Dev nD) : Dev nD := ⟨(c.val ^^^ 2 ^ (r % 4)) % 16, Nat.mod_lt _ (by decide)⟩

/-- Flipping the bit twice gives the device back. -/
theorem peer_peer (r : ℕ) (c : Dev nD) : peer r (peer r c) = c := by
  have h : ∀ v : Fin 4, ∀ d : Fin 16, ((((d.val ^^^ 2 ^ v.val) % 16) ^^^ 2 ^ v.val) % 16) = d.val := by decide
  exact Fin.ext (h ⟨r % 4, Nat.mod_lt _ (by decide)⟩ c)

/-- The exchange of round `r`, as a permutation of the devices. -/
def flip (r : ℕ) : Dev nD ≃ Dev nD := ⟨peer r, peer r, peer_peer r, peer_peer r⟩

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) : (⟨k0_dev5 c, k0_dev5_lt c⟩ : Dev nD) = peer 0 c := by revert c; decide
theorem dev6_eq (c : Dev nD) : (⟨k0_dev6 c, k0_dev6_lt c⟩ : Dev nD) = peer 0 c := by revert c; decide
theorem dev7_eq (c : Dev nD) : (⟨k0_dev7 c, k0_dev7_lt c⟩ : Dev nD) = peer 1 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 2 c := by revert c; decide
theorem dev10_eq (c : Dev nD) : (⟨k0_dev10 c, k0_dev10_lt c⟩ : Dev nD) = peer 2 c := by revert c; decide
theorem dev11_eq (c : Dev nD) : (⟨k0_dev11 c, k0_dev11_lt c⟩ : Dev nD) = peer 3 c := by revert c; decide
theorem dev12_eq (c : Dev nD) : (⟨k0_dev12 c, k0_dev12_lt c⟩ : Dev nD) = peer 3 c := by revert c; decide

/-! ## The buffers -/

/-- The buffer an outgoing attention total is written to. -/
abbrev outO : Memref sig .tc .vmem S512x1024 .bf16 := Memref.whole cc0_scratch0
/-- The buffer an outgoing denominator total is written to. -/
abbrev outL : Memref sig .tc .vmem S512x8 .f32 := Memref.whole cc0_scratch1
/-- The landing buffer of the attention totals, a slot a round. -/
abbrev inO : Memref sig .tc .vmem S4x512x1024 .bf16 := Memref.whole cc0_scratch2
/-- The landing buffer of the denominator totals, a slot a round. -/
abbrev inL : Memref sig .tc .vmem S4x512x8 .f32 := Memref.whole cc0_scratch3

theorem inbO (r : Fin 4) : ∀ a, (![r.val, 0, 0] : Fin 3 → Nat) a + S1x512x1024.size a ≤ S4x512x1024.size a := by
  revert r; decide
theorem inbL (r : Fin 4) : ∀ a, (![r.val, 0, 0] : Fin 3 → Nat) a + S1x512x8.size a ≤ S4x512x8.size a := by
  revert r; decide

/-- The elements of round `r`'s slot of the attention landing buffer. -/
abbrev rectO (r : Fin 4) : Rect S4x512x1024 := Rect.unit (s := S4x512x1024) ![r.val, 0, 0] S1x512x1024.size (inbO r)
/-- The elements of round `r`'s slot of the denominator landing buffer. -/
abbrev rectL (r : Fin 4) : Rect S4x512x8 := Rect.unit (s := S4x512x8) ![r.val, 0, 0] S1x512x8.size (inbL r)

/-- Round `r`'s slot of the attention landing buffer, as a matrix. -/
abbrev slotO (r : Fin 4) : Memref sig .tc .vmem S512x1024 .bf16 :=
  (inO.slice (rectO r) (fun _ => rfl)).squeeze S512x1024 squeezes_S1x512x1024_S512x1024
/-- Round `r`'s slot of the denominator landing buffer, as a matrix. -/
abbrev slotL (r : Fin 4) : Memref sig .tc .vmem S512x8 .f32 :=
  (inL.slice (rectL r) (fun _ => rfl)).squeeze S512x8 squeezes_S1x512x8_S512x8

theorem slotO_set (r : Fin 4) : (slotO r).view.set = (rectO r).set :=
  (View.set_reshape _ _).trans (View.set_slice_whole _ _)
theorem slotL_set (r : Fin 4) : (slotL r).view.set = (rectL r).set :=
  (View.set_reshape _ _).trans (View.set_slice_whole _ _)

theorem rectO_disjoint (r r' : Fin 4) (h : r ≠ r') : Disjoint (rectO r).set (rectO r').set :=
  Rect.unit_disjoint (0 : Fin 3) (by
    have : r.val ≠ r'.val := fun e => h (Fin.ext e)
    show r.val + 1 ≤ r'.val ∨ r'.val + 1 ≤ r.val; omega)
theorem rectL_disjoint (r r' : Fin 4) (h : r ≠ r') : Disjoint (rectL r).set (rectL r').set :=
  Rect.unit_disjoint (0 : Fin 3) (by
    have : r.val ≠ r'.val := fun e => h (Fin.ext e)
    show r.val + 1 ≤ r'.val ∨ r'.val + 1 ≤ r.val; omega)

theorem rectO_cover : Finset.univ.biUnion (fun r : Fin 4 => (rectO r).set) = Finset.univ := by
  ext i
  simp only [Finset.mem_biUnion, Finset.mem_univ, true_and, iff_true]
  refine ⟨⟨(i 0).val, (i 0).isLt⟩, Rect.mem_set_unit.mpr fun a => ?_⟩
  fin_cases a
  · exact ⟨le_refl _, Nat.lt_succ_self _⟩
  · exact ⟨Nat.zero_le _, by show (i 1).val < 0 + 512; have := (i 1).isLt; rw [Nat.zero_add]; exact this⟩
  · exact ⟨Nat.zero_le _, by show (i 2).val < 0 + 1024; have := (i 2).isLt; rw [Nat.zero_add]; exact this⟩
theorem rectL_cover : Finset.univ.biUnion (fun r : Fin 4 => (rectL r).set) = Finset.univ := by
  ext i
  simp only [Finset.mem_biUnion, Finset.mem_univ, true_and, iff_true]
  refine ⟨⟨(i 0).val, (i 0).isLt⟩, Rect.mem_set_unit.mpr fun a => ?_⟩
  fin_cases a
  · exact ⟨le_refl _, Nat.lt_succ_self _⟩
  · exact ⟨Nat.zero_le _, by show (i 1).val < 0 + 512; have := (i 1).isLt; rw [Nat.zero_add]; exact this⟩
  · exact ⟨Nat.zero_le _, by show (i 2).val < 0 + 8; have := (i 2).isLt; rw [Nat.zero_add]; exact this⟩

/-! ## The cells -/

/-- The barrier semaphore. -/
abbrev barS : Sem sig := (SemArray.scalar (sig.barrier 0 rfl) : Sems sig S_).sem
/-- The kernel's sixteen transfer semaphores: four rounds each of attention sends, attention receipts,
    denominator sends and denominator receipts. -/
abbrev dsem (k : Fin 16) : DmaSem sig := ⟨6 + k.val, by have := k.isLt; show 6 + k.val < 22; omega⟩

abbrev barCell (c : Dev nD) : GSem nD τ sig := ((c : Thread nD τ), .reg barS)
abbrev dcell (c : Dev nD) (k : Fin 16) : GSem nD τ sig := ((c : Thread nD τ), .dma (dsem k))

/-- The number of round `r`'s attention send, -/
abbrev sO (r : Fin 4) : Fin 16 := ⟨r.val, by omega⟩
/-- attention receipt, -/
abbrev rO (r : Fin 4) : Fin 16 := ⟨4 + r.val, by omega⟩
/-- denominator send -/
abbrev sL (r : Fin 4) : Fin 16 := ⟨8 + r.val, by omega⟩
/-- and denominator receipt semaphore. -/
abbrev rL (r : Fin 4) : Fin 16 := ⟨12 + r.val, by omega⟩

/-- All the cells of a device: its barrier cell and its sixteen transfer cells. -/
def osem : Fin 16 → SemLoc sig := fun k => .dma (dsem k)
def ksem : Option (Fin 16) → SemLoc sig
  | none => .reg barS
  | some k => .dma (dsem k)
abbrev kcell (ck : Dev nD × Option (Fin 16)) : GSem nD τ sig := ((ck.1 : Thread nD τ), ksem ck.2)

/-- What an attention transfer counts, -/
abbrev NO : ℕ := (slotO 0).view.dmaCredit
/-- and a denominator transfer. -/
abbrev NL : ℕ := (slotL 0).view.dmaCredit
theorem NO_pos : 0 < NO := View.dmaCredit_pos _ (by decide)
theorem NL_pos : 0 < NL := View.dmaCredit_pos _ (by decide)

theorem creditO (r : Fin 4) : (slotO r).view.dmaCredit = NO := by fin_cases r <;> rfl
theorem creditL (r : Fin 4) : (slotL r).view.dmaCredit = NL := by fin_cases r <;> rfl
theorem creditOutO : (outO).view.dmaCredit = NO := by rfl
theorem creditOutL : (outL).view.dmaCredit = NL := by rfl

end Cert.KernelIdeal.Hyper

end
-- ==== Proof.KernelIdeal.Schedule.lean ====
/-
# The schedule of the exchange

Each transfer cell is used once: the send cell of round `r` hands the outgoing buffer back to its device, the
receipt cell of round `r` hands over the slot the partner's message landed in, holding exactly that message.
The barrier cell collects one unit from each of the four partners; the unit of partner `r` hands over that
partner's two slots of round `r`, so that this device may write them.
-/
module

public import proofs.«01_k».proof.Proof.KernelIdeal.Cells

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The contents -/

/-- Device `c`'s staged copy of the tokens, -/
def xIn (c : Dev nD) : (cc0_stg0_0 : Ref sig .tc).ty.Contents (Elt F) :=
  (win0_0.blk (0 : Fin 1)).view.read (Elt F) (m ((c : Thread nD τ).loc main_arg0))
/-- of the query projection, -/
def wqIn (c : Dev nD) : (cc0_stg1_0 : Ref sig .tc).ty.Contents (Elt F) :=
  (win0_1.blk (0 : Fin 1)).view.read (Elt F) (m ((c : Thread nD τ).loc main_arg1))
/-- of the output projection, -/
def woIn (c : Dev nD) : (cc0_stg2_0 : Ref sig .tc).ty.Contents (Elt F) :=
  (win0_2.blk (0 : Fin 1)).view.read (Elt F) (m ((c : Thread nD τ).loc main_arg2))
/-- of its keys -/
def kIn (c : Dev nD) : (cc0_stg3_0 : Ref sig .tc).ty.Contents (Elt F) :=
  (win0_3.blk (0 : Fin 1)).view.read (Elt F) (m ((c : Thread nD τ).loc main_arg3))
/-- and of its values. -/
def vIn (c : Dev nD) : (cc0_stg4_0 : Ref sig .tc).ty.Contents (Elt F) :=
  (win0_4.blk (0 : Fin 1)).view.read (Elt F) (m ((c : Thread nD τ).loc main_arg4))

/-- The device's unnormalised attention over its own keys and values. -/
def locO (q : FVec F S512x1024 .bf16) (k v : Vec F S1x2048x2x128 .bf16) : FVec F S512x1024 .f32 :=
  k0_pay21 q (k0_pay2 k) (k0_pay3 v) (k0_pay6 q k v) (k0_pay9 q k v) (k0_pay12 q k v) (k0_pay15 q k v) (k0_pay16 q)
/-- Its softmax denominators over its own keys. -/
def locL (q : FVec F S512x1024 .bf16) (k : Vec F S1x2048x2x128 .bf16) : FVec F S512x8 .f32 :=
  k0_pay22 q (k0_pay2 k) (k0_pay5 q k) (k0_pay8 q k) (k0_pay11 q k) (k0_pay14 q k) (k0_pay16 q)

/-- The message that carries a running attention total. -/
def packO (o : FVec F S512x1024 .f32) : FVec F S512x1024 .bf16 :=
  shapeCast S512x1024 (truncf .bf16 o bitsLt_bf16_f32) shapeCasts_S512x1024_S512x1024
/-- The message that carries a running denominator total. -/
def packL (l : FVec F S512x8 .f32) : FVec F S512x8 .f32 := shapeCast S512x8 l shapeCasts_S512x8_S512x8

/-- A running attention total with a received message added. -/
def addO (o : FVec F S512x1024 .f32) (w : FVec F S512x1024 .bf16) : FVec F S512x1024 .f32 :=
  addf o (extf .f32 w bitsLt_bf16_f32)
/-- A running denominator total with a received message added. -/
def addL (l w : FVec F S512x8 .f32) : FVec F S512x8 .f32 := addf l w

/-- Device `c`'s running attention total before round `r`. -/
def oAt : ℕ → Dev nD → FVec F S512x1024 .f32
  | 0, c => locO (k0_pay1 (xIn m c) (wqIn m c)) (kIn m c) (vIn m c)
  | r + 1, c => addO (oAt r c) (packO (oAt r (peer r c)))
/-- Device `c`'s running denominator total before round `r`. -/
def lAt : ℕ → Dev nD → FVec F S512x8 .f32
  | 0, c => locL (k0_pay1 (xIn m c) (wqIn m c)) (kIn m c)
  | r + 1, c => addL (lAt r c) (packL (lAt r (peer r c)))

/-- What device `c` stores as its result. -/
def outAt (c : Dev nD) : (cc0_stg5_0 : Ref sig .tc).ty.Contents (Elt F) :=
  k0_pay39 (lAt m 3 c) (oAt m 4 c) (packL (lAt m 3 (peer 3 c))) (woIn m c)

/-! ## Ownership of the buffers -/

/-- Device `c` holds its outgoing attention buffer, with contents `f`. -/
def outOPts (c : Dev nD) (f : (cc0_scratch0 : Ref sig .tc).ty.Contents (Elt F)) : sProp 𝕄 :=
  (outO).view.loc (c : Thread nD τ) ↦[(outO).view.set]{fullShare} f
/-- Device `c` holds its outgoing denominator buffer, with contents `f`. -/
def outLPts (c : Dev nD) (f : (cc0_scratch1 : Ref sig .tc).ty.Contents (Elt F)) : sProp 𝕄 :=
  (outL).view.loc (c : Thread nD τ) ↦[(outL).view.set]{fullShare} f
/-- Device `c` holds round `r`'s attention slot, its buffer's contents `f`. -/
def slotOPts (c : Dev nD) (r : Fin 4) (f : (cc0_scratch2 : Ref sig .tc).ty.Contents (Elt F)) : sProp 𝕄 :=
  (slotO r).view.loc (c : Thread nD τ) ↦[(slotO r).view.set]{fullShare} f
/-- Device `c` holds round `r`'s denominator slot, its buffer's contents `f`. -/
def slotLPts (c : Dev nD) (r : Fin 4) (f : (cc0_scratch3 : Ref sig .tc).ty.Contents (Elt F)) : sProp 𝕄 :=
  (slotL r).view.loc (c : Thread nD τ) ↦[(slotL r).view.set]{fullShare} f

omit [FloatOps F] [Named F] in
instance outOPts_storable (c : Dev nD) (f) : BI.Storable (upEmb : UEmb _ 𝕄) (outOPts (F := F) c f) := by unfold outOPts; infer_instance
omit [FloatOps F] [Named F] in
instance outLPts_storable (c : Dev nD) (f) : BI.Storable (upEmb : UEmb _ 𝕄) (outLPts (F := F) c f) := by unfold outLPts; infer_instance
omit [FloatOps F] [Named F] in
instance slotOPts_storable (c : Dev nD) (r f) : BI.Storable (upEmb : UEmb _ 𝕄) (slotOPts (F := F) c r f) := by unfold slotOPts; infer_instance
omit [FloatOps F] [Named F] in
instance slotLPts_storable (c : Dev nD) (r f) : BI.Storable (upEmb : UEmb _ 𝕄) (slotLPts (F := F) c r f) := by unfold slotLPts; infer_instance

/-! ## The payloads -/

/-- What partner `r` hands `c` with its barrier unit: the partner's two slots of round `r`. -/
def barPay (c : Dev nD) (r : Fin 4) : sProp 𝕄 :=
  iprop((∃ f, slotOPts (peer r c) r f) ∗ (∃ f, slotLPts (peer r c) r f))
def sendOPay (c : Dev nD) : sProp 𝕄 := iprop(∃ f, outOPts c f)
def sendLPay (c : Dev nD) : sProp 𝕄 := iprop(∃ f, outLPts c f)
/-- What a receipt of round `r` hands `c`: its slot, which reads as the partner's message. -/
def recvOPay (c : Dev nD) (r : Fin 4) : sProp 𝕄 :=
  iprop(∃ f, ⌜(slotO r).view.read (Elt F) f = packO (oAt m r (peer r c))⌝ ∗ slotOPts c r f)
def recvLPay (c : Dev nD) (r : Fin 4) : sProp 𝕄 :=
  iprop(∃ f, ⌜(slotL r).view.read (Elt F) f = packL (lAt m r (peer r c))⌝ ∗ slotLPts c r f)

/-- The round a transfer semaphore serves. -/
def roundOf (q : DmaSem sig) : Fin 4 := ⟨(q.val - 6) % 4, Nat.mod_lt _ (by decide)⟩
/-- The kind of a transfer semaphore: 0 attention send, 1 attention receipt, 2 denominator send, 3 denominator
    receipt; more for the semaphores of the staging copies. -/
def kindOf (q : DmaSem sig) : ℕ := if q.val < 6 then 4 else (q.val - 6) / 4

def dmaPay (c : Dev nD) (q : DmaSem sig) : sProp 𝕄 :=
  match kindOf q with
  | 0 => sendOPay c
  | 1 => recvOPay m c (roundOf q)
  | 2 => sendLPay c
  | 3 => recvLPay m c (roundOf q)
  | _ => iprop(emp)

/-- Which duties a cell of the first round has: four at the barrier, one at a transfer semaphore. -/
def dutyOf (g : GSem nD τ sig) : Finset (Fin 4) :=
  match g.2 with
  | .reg s => if s = barS then Finset.univ else ∅
  | .dma q => if 6 ≤ q.val then {0} else ∅

def amountOf (g : GSem nD τ sig) : ℕ :=
  match g.2 with
  | .reg _ => 1
  | .dma q => if kindOf q ≤ 1 then NO else NL

def payOf (g : GSem nD τ sig) (d : Fin 4) : sProp 𝕄 :=
  match g.2 with
  | .reg _ => barPay g.1.1 d
  | .dma q => dmaPay m g.1.1 q

theorem amountOf_pos (g : GSem nD τ sig) : 0 < amountOf g := by
  unfold amountOf
  split
  · exact Nat.one_pos
  · split
    · exact NO_pos
    · exact NL_pos

/-- The schedule: one round at every cell. -/
def sched : Rounds.Schedule (GSem nD τ sig) (Fin 4) 𝕄 where
  duties g r := if r = 0 ∧ g.1.2 = .tc then dutyOf g else ∅
  unitless _ := False
  amount g _ _ := amountOf g
  payload g _ d := payOf m g d
  amount_pos g _ _ _ := amountOf_pos g

instance payload_storable (g : GSem nD τ sig) (r : ℕ) (d : Fin 4) :
    BI.Storable (upEmb : UEmb _ 𝕄) ((sched (F := F) m).payload g r d) := by
  show BI.Storable upEmb (payOf m g d)
  unfold payOf dmaPay barPay sendOPay sendLPay recvOPay recvLPay
  (repeat' split) <;> infer_instance

/-! ## The schedule's tables -/

section Tables
variable (c : Dev nD)

theorem duties_bar : (sched (F := F) m).duties (barCell c) 0 = Finset.univ := by
  dsimp only [sched]; rw [if_pos ⟨rfl, rfl⟩]
  exact (if_pos rfl : (if barS = barS then (Finset.univ : Finset (Fin 4)) else ∅) = Finset.univ)
theorem duties_dma (k : Fin 16) : (sched (F := F) m).duties (dcell c k) 0 = {0} := by
  dsimp only [sched]; rw [if_pos ⟨rfl, rfl⟩]; exact if_pos (Nat.le_add_right 6 k.val)
theorem duties_later (g : GSem nD τ sig) : ∀ r, 1 ≤ r → (sched (F := F) m).duties g r = ∅ :=
  fun r hr => by dsimp only [sched]; exact if_neg fun h => by omega

theorem amount_bar (d : Fin 4) : (sched (F := F) m).amount (barCell c) 0 d = 1 := rfl
theorem amount_sO (r d : Fin 4) : (sched (F := F) m).amount (dcell c (sO r)) 0 d = NO := by fin_cases r <;> rfl
theorem amount_rO (r d : Fin 4) : (sched (F := F) m).amount (dcell c (rO r)) 0 d = NO := by fin_cases r <;> rfl
theorem amount_sL (r d : Fin 4) : (sched (F := F) m).amount (dcell c (sL r)) 0 d = NL := by fin_cases r <;> rfl
theorem amount_rL (r d : Fin 4) : (sched (F := F) m).amount (dcell c (rL r)) 0 d = NL := by fin_cases r <;> rfl

theorem expect_bar : (sched (F := F) m).expect (barCell c) 0 = 4 := by
  unfold Schedule.expect Schedule.amountOf; rw [duties_bar]; rfl
theorem expect_dma (k : Fin 16) : (sched (F := F) m).expect (dcell c k) 0 = (sched (F := F) m).amount (dcell c k) 0 0 := by
  unfold Schedule.expect Schedule.amountOf; rw [duties_dma, Finset.sum_singleton]

theorem payload_bar (d : Fin 4) : (sched (F := F) m).payload (barCell c) 0 d = barPay c d := rfl
theorem payload_sO (r d : Fin 4) : (sched (F := F) m).payload (dcell c (sO r)) 0 d = sendOPay c := by fin_cases r <;> rfl
theorem payload_rO (r d : Fin 4) : (sched (F := F) m).payload (dcell c (rO r)) 0 d = recvOPay m c r := by fin_cases r <;> rfl
theorem payload_sL (r d : Fin 4) : (sched (F := F) m).payload (dcell c (sL r)) 0 d = sendLPay c := by fin_cases r <;> rfl
theorem payload_rL (r d : Fin 4) : (sched (F := F) m).payload (dcell c (rL r)) 0 d = recvLPay m c r := by fin_cases r <;> rfl

end Tables

/-! ## What each device owes, and the order of the waits -/

/-- The unit `c` owes partner `r`'s barrier. -/
abbrev tB (c : Dev nD) (r : Fin 4) : CellTallies nD τ sig Unit := tallyAt (barCell (peer r c)) () 1
/-- The attention transfer `c` owes partner `r`. -/
abbrev tO (c : Dev nD) (r : Fin 4) : CellTallies nD τ sig Unit := tallyAt (dcell (peer r c) (rO r)) () NO
/-- The denominator transfer `c` owes partner `r`. -/
abbrev tL (c : Dev nD) (r : Fin 4) : CellTallies nD τ sig Unit := tallyAt (dcell (peer r c) (rL r)) () NL

/-- What is still owed before round 3, 2, 1 and 0. -/
def D3 (c : Dev nD) : CellTallies nD τ sig Unit := 0 + tL c 3 + tO c 3
def D2 (c : Dev nD) : CellTallies nD τ sig Unit := D3 c + tL c 2 + tO c 2
def D1 (c : Dev nD) : CellTallies nD τ sig Unit := D2 c + tL c 1 + tO c 1
def D0 (c : Dev nD) : CellTallies nD τ sig Unit := D1 c + tL c 0 + tO c 0
/-- All that `c` owes at the start. -/
def O₀ (c : Dev nD) : CellTallies nD τ sig Unit := D0 c + tB c 3 + tB c 2 + tB c 1 + tB c 0

def L (g : GSem nD τ sig) : Finset Unit := if g.1.2 = .tc then {()} else ∅
/-- The place of a cell in the order of the waits: sends first, then the barrier, then the receipts by round. -/
def lv (g : GSem nD τ sig) (_ : Unit) : ℕ :=
  match g.2 with
  | .reg _ => 1
  | .dma q => if kindOf q = 1 ∨ kindOf q = 3 then 2 + (roundOf q).val else 0
theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_sO (c : Dev nD) (r : Fin 4) (u : Unit) : lv (dcell c (sO r)) u = 0 := by fin_cases r <;> rfl
theorem lv_rO (c : Dev nD) (r : Fin 4) (u : Unit) : lv (dcell c (rO r)) u = 2 + r.val := by fin_cases r <;> rfl
theorem lv_sL (c : Dev nD) (r : Fin 4) (u : Unit) : lv (dcell c (sL r)) u = 0 := by fin_cases r <;> rfl
theorem lv_rL (c : Dev nD) (r : Fin 4) (u : Unit) : lv (dcell c (rL r)) u = 2 + r.val := by fin_cases r <;> rfl

/-- Everything owed in `O` is at a TensorCore cell whose place is after `n`. -/
def Above (n : ℕ) (O : CellTallies nD τ sig Unit) : Prop :=
  ∀ (g : GSem nD τ sig) (u : Unit), 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n k : ℕ} (c : Dev nD) (sm : SemLoc sig) (h : n < lv ((c : Thread nD τ), sm) ()) :
    Above n (tallyAt ((c : Thread nD τ), sm) () k) := by
  intro g u hg
  rw [tallyAt_apply] at hg
  by_cases e : g = ((c : Thread nD τ), sm) ∧ u = ()
  · rw [e.1]; exact ⟨rfl, h⟩
  · rw [if_neg e] at hg; exact absurd hg (Nat.lt_irrefl 0)
theorem above_tO {n : ℕ} (c : Dev nD) (r : Fin 4) (h : n < 2 + r.val) : Above n (tO c r) :=
  above_tally _ _ (by rw [lv_rO]; exact h)
theorem above_tL {n : ℕ} (c : Dev nD) (r : Fin 4) (h : n < 2 + r.val) : Above n (tL c r) :=
  above_tally _ _ (by rw [lv_rL]; exact h)
theorem above_tB {n : ℕ} (c : Dev nD) (r : Fin 4) (h : n < 1) : Above n (tB c r) :=
  above_tally _ _ (by rw [lv_bar]; exact h)
theorem above_D3 {n : ℕ} (c : Dev nD) (h : n < 5) : Above n (D3 c) :=
  above_add (above_add (above_zero n) (above_tL c 3 h)) (above_tO c 3 h)
theorem above_D2 {n : ℕ} (c : Dev nD) (h : n < 4) : Above n (D2 c) :=
  above_add (above_add (above_D3 c (by omega)) (above_tL c 2 h)) (above_tO c 2 h)
theorem above_D1 {n : ℕ} (c : Dev nD) (h : n < 3) : Above n (D1 c) :=
  above_add (above_add (above_D2 c (by omega)) (above_tL c 1 h)) (above_tO c 1 h)
theorem above_D0 {n : ℕ} (c : Dev nD) (h : n < 2) : Above n (D0 c) :=
  above_add (above_add (above_D1 c (by omega)) (above_tL c 0 h)) (above_tO c 0 h)
theorem above_O₀ {n : ℕ} (c : Dev nD) (h : n < 1) : Above n (O₀ c) :=
  above_add (above_add (above_add (above_add (above_D0 c (by omega)) (above_tB c 3 h)) (above_tB c 2 h)) (above_tB c 1 h)) (above_tB c 0 h)

omit [FloatOps F] [Named F] in
/-- A wait may be made while everything still owed comes later in the order. -/
theorem mayWait (c : Dev nD) (sm : SemLoc sig) (n : ℕ) (hn : lv ((c : Thread nD τ), sm) () ≤ n)
    {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdeal.Hyper

end
-- ==== Proof.KernelIdeal.Steps.lean ====
/-
# The steps of the exchange

One rule for each kind of operation the kernel's protocol makes, at any device and any round: the barrier
signal, the barrier wait, the two transfers, the wait for a transfer, and the accesses to the buffers they use.
-/
module

public import proofs.«01_k».proof.Proof.KernelIdeal.Schedule
public import Idealize.ShloMosaic.Lib.Pipeline.Value

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared records -/

/-- Every cell's invariant, and that every cell has reached its round. -/
def records (K : Dev nD × Option (Fin 16) → ℕ) : sProp 𝕄 :=
  iprop((bigSep Finset.univ fun ck : Dev nD × Option (Fin 16) => cellInv ER (sched m) (K ck) (kcell ck))
    ∗ bigSep Finset.univ fun ck : Dev nD × Option (Fin 16) => reached ER (kcell ck) 0)

instance records_persistent (K : Dev nD × Option (Fin 16) → ℕ) : BI.Persistent (records m K) := by unfold records; infer_instance

theorem records_inv (K : Dev nD × Option (Fin 16) → ℕ) (ck : Dev nD × Option (Fin 16)) :
    records m K ⊢ cellInv ER (sched m) (K ck) (kcell ck) := by
  unfold records
  iintro ⟨#HI, -⟩
  iapply (show (bigSep Finset.univ fun ck : Dev nD × Option (Fin 16) => (cellInv ER (sched m) (K ck) (kcell ck) : sProp 𝕄))
    ⊢ cellInv ER (sched m) (K ck) (kcell ck) from bigSep_elim (Finset.mem_univ ck))
  iexact HI

theorem records_reached (K : Dev nD × Option (Fin 16) → ℕ) (ck : Dev nD × Option (Fin 16)) :
    records m K ⊢ reached ER (kcell ck) 0 := by
  unfold records
  iintro ⟨-, #HR⟩
  iapply (show (bigSep Finset.univ fun ck : Dev nD × Option (Fin 16) => (reached ER (kcell ck) 0 : sProp 𝕄))
    ⊢ reached ER (kcell ck) 0 from bigSep_elim (Finset.mem_univ ck))
  iexact HR

/-- What `c` owes, whatever waits it has made. -/
def owing (c : Dev nD) (O : CellTallies nD τ sig Unit) : sProp 𝕄 := iprop(∃ W, owes (c : Thread nD τ) O W)

section Steps

variable (K : Dev nD × Option (Fin 16) → ℕ) (c : Dev nD)

/-- A barrier signal to partner `r`: it hands over this device's two slots of round `r`. -/
theorem step_signal (r : Fin 4) (n : Dev nD) (hn : n = peer r c) (z : Int) (hz : z = ((1 : ℕ) : Int))
    {α : Type} {Q : α → sProp 𝕄} {k : PUnit → Prog (TpuEff nD τ sig (Elt F) Λ₀ .tc) α} (O : CellTallies nD τ sig Unit) :
    iprop(records m K ∗ owing c (O + tB c r) ∗ dutyTok ER (barCell (peer r c)) 0 r ∗ (∃ f, slotOPts c r f) ∗ (∃ f, slotLPts c r f))
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS z) k) Q) := by
  subst hn hz
  unfold owing
  iintro ⟨#HR, ⟨%W, HO⟩, Ht, Hs, Hs'⟩ Hk
  iapply (Rounds.wp_signal 𝒱₀ ER (sched m) (c : Thread nD τ) none (dst := (peer r c : Thread nD τ)) (κ := K (peer r c, none)) (d := r)
      (by rw [duties_bar]; exact Finset.mem_univ _) (amount_bar m (peer r c) r) () O rfl) $$ [HO Ht Hs Hs']
  · isplitr; · iapply (records_inv m K (peer r c, none)); iexact HR
    isplitl [HO]; · iexact HO
    isplitl [Ht]; · iexact Ht
    isplitl [Hs Hs']
    · rw [payload_bar]; unfold barPay; rw [peer_peer]
      isplitl [Hs]; · iexact Hs
      iexact Hs'
    · iapply (records_reached m K (peer r c, none)); iexact HR
  iintro HO
  iapply Hk; iexists W; iexact HO

/-- The barrier wait: the four partners' slots come with it, and the barrier is spent. -/
theorem step_barrier (z : Int) (hz : z = ((4 : ℕ) : Int)) {α : Type} {Q : α → sProp 𝕄} {k : PUnit → Prog (TpuEff nD τ sig (Elt F) Λ₀ .tc) α}
    (O : CellTallies nD τ sig Unit) (hO : Above 1 O) :
    iprop(records m K ∗ cred (tallyAt (barCell c) () 4) ∗ owing c O ∗ levAts L lv ∗ atPos ER (barCell c) 0 ∅ 0)
      ⊢ iprop(((owing c O ∗ semVal (barCell c) 0 ∗ barPay c 0 ∗ barPay c 1 ∗ barPay c 2 ∗ barPay c 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  unfold owing
  iintro ⟨#HR, Hc, ⟨%W, HO⟩, Hl, Hat⟩ Hk
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hl Hat]
  · isplitr; · iapply (records_inv m K (c, none)); iexact HR
    isplitl [Hc]; · iexact Hc
    isplitl [HO]; · iexact HO
    isplitl [Hl]; · iapply (mayWait c (.reg barS) 1 (le_refl 1) hO); iexact Hl
    iexact Hat
  iintro ⟨HO, Hat, -, Hpay⟩
  imod (Rounds.cell_close ER (sched m) (Set.mem_univ (K (c, none))) (fun h => h) (R := 0 + 1) (duties_later m (barCell c))) $$ [Hat] with Hz
  · isplitr; · iapply (records_inv m K (c, none)); iexact HR
    iexact Hat
  iapply Hk
  isplitl [HO]; · iexists _; iexact HO
  isplitl [Hz]; · iexact Hz
  ihave Hp := (show (bigSep ((sched (F := F) m).duties (barCell c) 0 \ ∅) (fun d => (sched (F := F) m).payload (barCell c) 0 d) : sProp 𝕄)
      ⊢ iprop(barPay c 0 ∗ barPay c 1 ∗ barPay c 2 ∗ barPay c 3) from by
        rw [Finset.sdiff_empty, duties_bar]
        exact Entails.of_eq (bigSep_univ_eq_bigSepL [0, 1, 2, 3] (by decide) (by decide) _)) $$ Hpay
  iexact Hp

/-- The wait for a transfer: the cell's one payload comes with it, and the cell is spent. -/
theorem step_wait (j : Fin 16) (s : DmaSem sig) (hs : s = dsem j) {sp sp' : Space} {sh sh' : Shape} {e e' : EltTy} {κ' : Kind}
    {src : Memref sig .tc sp' sh' e'} {dst : Memref sig κ' sp sh e} {hsrc : src.view.WordExact} {hdst : dst.view.WordExact}
    (N : ℕ) (hN : dst.view.dmaCredit = N) (hk : (sched (F := F) m).amount (dcell c j) 0 0 = N)
    {α : Type} {Q : α → sProp 𝕄} {k : PUnit → Prog (TpuEff nD τ sig (Elt F) Λ₀ .tc) α}
    (n : ℕ) (hn : lv (dcell c j) () ≤ n) (O : CellTallies nD τ sig Unit) (hO : Above n O) :
    iprop(records m K ∗ cred (tallyAt (dcell c j) () N) ∗ owing c O ∗ levAts L lv ∗ atPos ER (dcell c j) 0 ∅ 0)
      ⊢ iprop(((owing c O ∗ semVal (dcell c j) 0 ∗ (sched (F := F) m).payload (dcell c j) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs hN
  unfold owing
  iintro ⟨#HR, Hc, ⟨%W, HO⟩, Hl, Hat⟩ Hk
  iapply (Rounds.wp_wait_rest_token 𝒱₀ ER (sched m) (c : Thread nD τ) none (κ := K (c, some j)) (sm := .dma (dsem j))
      (wpE_waitDma2_eq 𝒱₀ (c : Thread nD τ) none Set.univ) (Set.mem_univ _) () (O := O) (W := W) (R := 0) (m := 0) (T := ∅)
      (by rw [Nat.zero_add, expect_dma, hk])) $$ [Hc HO Hl Hat]
  · isplitr; · iapply (records_inv m K (c, some j)); iexact HR
    isplitl [Hc]; · iexact Hc
    isplitl [HO]; · iexact HO
    isplitl [Hl]; · iapply (mayWait c (.dma (dsem j)) n hn hO); iexact Hl
    iexact Hat
  iintro ⟨HO, Hat, -, Hpay⟩
  imod (Rounds.cell_close ER (sched m) (Set.mem_univ (K (c, some j))) (fun h => h) (R := 0 + 1) (duties_later m (dcell c j))) $$ [Hat] with Hz
  · isplitr; · iapply (records_inv m K (c, some j)); iexact HR
    iexact Hat
  iapply Hk
  isplitl [HO]; · iexists _; iexact HO
  isplitl [Hz]; · iexact Hz
  ihave Hp := (show (bigSep ((sched (F := F) m).duties (dcell c j) 0 \ ∅) (fun d => (sched (F := F) m).payload (dcell c j) 0 d) : sProp 𝕄)
      ⊢ (sched (F := F) m).payload (dcell c j) 0 0 from by
        rw [Finset.sdiff_empty, duties_dma, bigSep_singleton]) $$ Hpay
  iexact Hp

omit [FloatOps F] [Named F] in
/-- The message lands in the slot as it was sent. -/
theorem landedO (r : Fin 4) (fd : (cc0_scratch2 : Ref sig .tc).ty.Contents (Elt F)) (fs : (cc0_scratch0 : Ref sig .tc).ty.Contents (Elt F)) :
    (slotO r).view.read (Elt F) ((slotO r).view.write (Elt F) fd ((outO).view.read (Elt F) fs) Finset.univ) = fs := by
  exact View.read_write_univ _ _
omit [FloatOps F] [Named F] in
theorem landedL (r : Fin 4) (fd : (cc0_scratch3 : Ref sig .tc).ty.Contents (Elt F)) (fs : (cc0_scratch1 : Ref sig .tc).ty.Contents (Elt F)) :
    (slotL r).view.read (Elt F) ((slotL r).view.write (Elt F) fd ((outL).view.read (Elt F) fs) Finset.univ) = fs := by
  exact View.read_write_univ _ _

/-- A sent attention buffer comes back as the send cell's payload. -/
theorem returnedO (r : Fin 4) (f : (cc0_scratch0 : Ref sig .tc).ty.Contents (Elt F)) :
    ((outO).view.loc (c : Thread nD τ) ↦[(outO).view.set]{fullShare} f) ⊢ (sched (F := F) m).payload ((c : Thread nD τ), .dma (dsem (sO r))) 0 0 := by
  rw [payload_sO]; unfold sendOPay outOPts; iintro H; iexists f; iexact H

/-- A slot written with this device's message is the partner's receipt. -/
theorem handedO (r : Fin 4) (fd : (cc0_scratch2 : Ref sig .tc).ty.Contents (Elt F)) :
    ((slotO r).view.loc (peer r c : Thread nD τ) ↦[(slotO r).view.set]{fullShare}
        ((slotO r).view.write (Elt F) fd ((outO).view.read (Elt F) (packO (oAt m r c))) Finset.univ))
      ⊢ (sched (F := F) m).payload ((peer r c : Thread nD τ), .dma (dsem (rO r))) 0 0 := by
  rw [payload_rO]; unfold recvOPay slotOPts; rw [peer_peer]
  iintro H; iexists _
  isplitr; · ipureintro; exact landedO r fd _
  iexact H

/-- The attention transfer of round `r`. -/
theorem step_sendO (r : Fin 4) (n : Dev nD) (hn : n = peer r c) (dst : Memref sig .tc .vmem S512x1024 .bf16) (hd : dst = slotO r)
    (sS sR : DmaSem sig) (hS : sS = dsem (sO r)) (hR : sR = dsem (rO r))
    {hsc : (dst : Memref sig (Dev.tc n : Thread nD τ).2.kind .vmem S512x1024 .bf16).view.ref.isScScratch = false}
    {hsrc : (outO).view.WordExact} {hdst : (dst : Memref sig (Dev.tc n : Thread nD τ).2.kind .vmem S512x1024 .bf16).view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} (O : CellTallies nD τ sig Unit) :
    iprop(records m K ∗ outOPts c (packO (oAt m r c)) ∗ (∃ f, slotOPts (peer r c) r f) ∗ owing c (O + tO c r)
        ∗ dutyTok ER (dcell c (sO r)) 0 0 ∗ dutyTok ER (dcell (peer r c) (rO r)) 0 0)
      ⊢ iprop(((cred (tallyAt (dcell c (sO r)) () NO) ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outO (.remote (Dev.tc n : Thread nD τ) dst (.dma sS) hsc) (.dma sR) hsrc hdst hsem) k) Q) := by
  subst hn hd hS hR
  unfold owing
  iintro ⟨#HR, Ho, ⟨%fd, Hs⟩, ⟨%W, HO⟩, Ht, Ht'⟩ Hk
  unfold outOPts slotOPts
  iapply (Rounds.wp_send_pointsTo 𝒱₀ ER (sched m) (c : Thread nD τ) none (κ₁ := K (c, some (sO r))) (κ₂ := K (peer r c, some (rO r)))
    (c' := (peer r c : Thread nD τ)) (src := outO) (dst := slotO r) (sS := .dma (dsem (sO r))) (sem := .dma (dsem (rO r)))
    (fs := packO (oAt m r c))
    (r₁ := 0) (r₂ := 0) (d₁ := 0) (d₂ := 0) (fd := fd)
    (by rw [duties_dma]; exact Finset.mem_singleton_self _) (by rw [duties_dma]; exact Finset.mem_singleton_self _)
    () () NO (creditO r) (amount_sO m c r 0) (amount_rO m (peer r c) r 0) O rfl (W := W)
    (returnedO m c r _) (handedO m c r fd)) $$ [Ho Hs HO Ht Ht']
  · isplitr; · iapply (records_inv m K (c, some (sO r))); iexact HR
    isplitr; · iapply (records_inv m K (peer r c, some (rO r))); iexact HR
    isplitl [Ho]; · iexact Ho
    isplitl [Hs]; · iexact Hs
    isplitl [HO]; · iexact HO
    isplitl [Ht]; · iexact Ht
    isplitr; · iapply (records_reached m K (c, some (sO r))); iexact HR
    isplitl [Ht']; · iexact Ht'
    iapply (records_reached m K (peer r c, some (rO r))); iexact HR
  iintro ⟨Hc, HO⟩
  iapply Hk
  isplitl [Hc]; · iexact Hc
  iexists W; iexact HO

/-- A sent denominator buffer comes back as the send cell's payload. -/
theorem returnedL (r : Fin 4) (f : (cc0_scratch1 : Ref sig .tc).ty.Contents (Elt F)) :
    ((outL).view.loc (c : Thread nD τ) ↦[(outL).view.set]{fullShare} f) ⊢ (sched (F := F) m).payload ((c : Thread nD τ), .dma (dsem (sL r))) 0 0 := by
  rw [payload_sL]; unfold sendLPay outLPts; iintro H; iexists f; iexact H

/-- A slot written with this device's message is the partner's receipt. -/
theorem handedL (r : Fin 4) (fd : (cc0_scratch3 : Ref sig .tc).ty.Contents (Elt F)) :
    ((slotL r).view.loc (peer r c : Thread nD τ) ↦[(slotL r).view.set]{fullShare}
        ((slotL r).view.write (Elt F) fd ((outL).view.read (Elt F) (packL (lAt m r c))) Finset.univ))
      ⊢ (sched (F := F) m).payload ((peer r c : Thread nD τ), .dma (dsem (rL r))) 0 0 := by
  rw [payload_rL]; unfold recvLPay slotLPts; rw [peer_peer]
  iintro H; iexists _
  isplitr; · ipureintro; exact landedL r fd _
  iexact H

/-- The denominator transfer of round `r`. -/
theorem step_sendL (r : Fin 4) (n : Dev nD) (hn : n = peer r c) (dst : Memref sig .tc .vmem S512x8 .f32) (hd : dst = slotL r)
    (sS sR : DmaSem sig) (hS : sS = dsem (sL r)) (hR : sR = dsem (rL r))
    {hsc : (dst : Memref sig (Dev.tc n : Thread nD τ).2.kind .vmem S512x8 .f32).view.ref.isScScratch = false}
    {hsrc : (outL).view.WordExact} {hdst : (dst : Memref sig (Dev.tc n : Thread nD τ).2.kind .vmem S512x8 .f32).view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} (O : CellTallies nD τ sig Unit) :
    iprop(records m K ∗ outLPts c (packL (lAt m r c)) ∗ (∃ f, slotLPts (peer r c) r f) ∗ owing c (O + tL c r)
        ∗ dutyTok ER (dcell c (sL r)) 0 0 ∗ dutyTok ER (dcell (peer r c) (rL r)) 0 0)
      ⊢ iprop(((cred (tallyAt (dcell c (sL r)) () NL) ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outL (.remote (Dev.tc n : Thread nD τ) dst (.dma sS) hsc) (.dma sR) hsrc hdst hsem) k) Q) := by
  subst hn hd hS hR
  unfold owing
  iintro ⟨#HR, Ho, ⟨%fd, Hs⟩, ⟨%W, HO⟩, Ht, Ht'⟩ Hk
  unfold outLPts slotLPts
  iapply (Rounds.wp_send_pointsTo 𝒱₀ ER (sched m) (c : Thread nD τ) none (κ₁ := K (c, some (sL r))) (κ₂ := K (peer r c, some (rL r)))
    (c' := (peer r c : Thread nD τ)) (src := outL) (dst := slotL r) (sS := .dma (dsem (sL r))) (sem := .dma (dsem (rL r)))
    (fs := packL (lAt m r c))
    (r₁ := 0) (r₂ := 0) (d₁ := 0) (d₂ := 0) (fd := fd)
    (by rw [duties_dma]; exact Finset.mem_singleton_self _) (by rw [duties_dma]; exact Finset.mem_singleton_self _)
    () () NL (creditL r) (amount_sL m c r 0) (amount_rL m (peer r c) r 0) O rfl (W := W)
    (returnedL m c r _) (handedL m c r fd)) $$ [Ho Hs HO Ht Ht']
  · isplitr; · iapply (records_inv m K (c, some (sL r))); iexact HR
    isplitr; · iapply (records_inv m K (peer r c, some (rL r))); iexact HR
    isplitl [Ho]; · iexact Ho
    isplitl [Hs]; · iexact Hs
    isplitl [HO]; · iexact HO
    isplitl [Ht]; · iexact Ht
    isplitr; · iapply (records_reached m K (c, some (sL r))); iexact HR
    isplitl [Ht']; · iexact Ht'
    iapply (records_reached m K (peer r c, some (rL r))); iexact HR
  iintro ⟨Hc, HO⟩
  iapply Hk
  isplitl [Hc]; · iexact Hc
  iexists W; iexact HO

end Steps

end Cert.KernelIdeal.Hyper

end
-- ==== Proof.KernelIdeal.Access.lean ====
/-
# The accesses to the kernel's own buffers

A load of an outgoing buffer changes nothing, a store to one replaces its contents, and a load of a landing slot
yields the message the slot reads as.
-/
module

public import proofs.«01_k».proof.Proof.KernelIdeal.Steps

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Access

variable (m : (ℓ : Loc nD τ sig) → Buf (Elt F) ℓ) (c : Dev nD)

/-- A load of the outgoing attention buffer, its contents unknown, changes nothing. -/
theorem step_peekO {off : Fin 2 → ℕ} {hin} {hl} {α : Type} {Q : α → sProp 𝕄} {k : Vec F S512x1024 .bf16 → Prog (TpuEff nD τ sig (Elt F) Λ₀ .tc) α} :
    iprop(∃ f, outOPts c f)
      ⊢ iprop((∀ v, (∃ f, outOPts c f) -∗ wp frame (wpE (defs₀ (F := F)) 𝒱₀ (c : Thread nD τ) none) Set.univ (k v) Q)
          -∗ wp frame (wpE (defs₀ (F := F)) 𝒱₀ (c : Thread nD τ) none) Set.univ
              (.op (.load outO (Rect.unit (s := S512x1024) off S512x1024.size hin).toLoadRect hl) k) Q) := by
  unfold outOPts
  iintro ⟨%f, H⟩ Hk
  iapply (wp_load 𝒱₀ (c : Thread nD τ) none Set.univ (m := outO) (View.setOn_subset_set _ _)) $$ H
  iintro H
  iapply Hk $$ %(View.readAt (Elt F) (outO).view (Rect.unit (s := S512x1024) off S512x1024.size hin).toLoadRect f) [H]
  iexists f
  iexact H

/-- A store to the whole outgoing attention buffer leaves it with what was stored. -/
theorem step_putO (w : FVec F S512x1024 .bf16) {off : Fin 2 → ℕ} (hoff : off = fun _ => 0) {hin} {hl} {hm} {α : Type} {Q : α → sProp 𝕄}
    {k : PUnit → Prog (TpuEff nD τ sig (Elt F) Λ₀ .tc) α} :
    iprop(∃ f, outOPts c f)
      ⊢ iprop((outOPts c w -∗ wp frame (wpE (defs₀ (F := F)) 𝒱₀ (c : Thread nD τ) none) Set.univ (k ⟨⟩) Q)
          -∗ wp frame (wpE (defs₀ (F := F)) 𝒱₀ (c : Thread nD τ) none) Set.univ
              (.op (.store outO (Rect.unit (s := S512x1024) off S512x1024.size hin) w Finset.univ hl hm) k) Q) := by
  have hset : (outO).view.set = Finset.univ := View.set_whole _
  unfold outOPts
  iintro ⟨%f, H⟩ Hk
  iapply (wp_store 𝒱₀ (c : Thread nD τ) none Set.univ (m := outO) (r := Rect.unit (s := S512x1024) off S512x1024.size hin) (Mk := Finset.univ)
    (fun x _ => by show x ∈ (outO).view.set; rw [hset]; exact Finset.mem_univ _)) $$ H
  iintro H
  iapply Hk
  iapply (Entails.of_eq (congrArg (fun g => ((outO).view.loc (c : Thread nD τ) ↦[(outO).view.set]{fullShare} g : sProp 𝕄))
    (Memref.write_access_unit_zero_univ (Elt F) cc0_scratch0 hoff hin f w)))
  iexact H

/-- A load of a landing slot that has received its message yields the message. -/
theorem step_readO (r : Fin 4) {off : Fin 3 → ℕ} (hoff : off = ![r.val, 0, 0]) {hin} {hl} {α : Type} {Q : α → sProp 𝕄}
    {k : Vec F S1x512x1024 .bf16 → Prog (TpuEff nD τ sig (Elt F) Λ₀ .tc) α} :
    recvOPay m c r
      ⊢ iprop((∀ v, ⌜shapeCast S512x1024 v shapeCasts_S1x512x1024_S512x1024 = packO (oAt m r (peer r c))⌝ -∗ (∃ f, slotOPts c r f)
            -∗ wp frame (wpE (defs₀ (F := F)) 𝒱₀ (c : Thread nD τ) none) Set.univ (k v) Q)
          -∗ wp frame (wpE (defs₀ (F := F)) 𝒱₀ (c : Thread nD τ) none) Set.univ
              (.op (.load inO (Rect.unit (s := S4x512x1024) off S1x512x1024.size hin).toLoadRect hl) k) Q) := by
  subst hoff
  unfold recvOPay slotOPts
  iintro ⟨%f, %hf, H⟩ Hk
  iapply (wp_load_rect 𝒱₀ (c : Thread nD τ) none Set.univ (m := inO) (r := rectO r)
    (S := (slotO r).view.set) (subset_of_eq (View.set_reshape _ _).symm)) $$ H
  iintro H
  iapply Hk $$ %(((inO).access (rectO r)).read (Elt F) f) [] [H]
  · ipureintro; exact hf
  · iexists f; iexact H

/-- A load of the outgoing denominator buffer, its contents unknown, changes nothing. -/
theorem step_peekL {off : Fin 2 → ℕ} {hin} {hl} {α : Type} {Q : α → sProp 𝕄} {k : Vec F S512x8 .f32 → Prog (TpuEff nD τ sig (Elt F) Λ₀ .tc) α} :
    iprop(∃ f, outLPts c f)
      ⊢ iprop((∀ v, (∃ f, outLPts c f) -∗ wp frame (wpE (defs₀ (F := F)) 𝒱₀ (c : Thread nD τ) none) Set.univ (k v) Q)
          -∗ wp frame (wpE (defs₀ (F := F)) 𝒱₀ (c : Thread nD τ) none) Set.univ
              (.op (.load outL (Rect.unit (s := S512x8) off S512x8.size hin).toLoadRect hl) k) Q) := by
  unfold outLPts
  iintro ⟨%f, H⟩ Hk
  iapply (wp_load 𝒱₀ (c : Thread nD τ) none Set.univ (m := outL) (View.setOn_subset_set _ _)) $$ H
  iintro H
  iapply Hk $$ %(View.readAt (Elt F) (outL).view (Rect.unit (s := S512x8) off S512x8.size hin).toLoadRect f) [H]
  iexists f
  iexact H

/-- A store to the whole outgoing denominator buffer leaves it with what was stored. -/
theorem step_putL (w : FVec F S512x8 .f32) {off : Fin 2 → ℕ} (hoff : off = fun _ => 0) {hin} {hl} {hm} {α : Type} {Q : α → sProp 𝕄}
    {k : PUnit → Prog (TpuEff nD τ sig (Elt F) Λ₀ .tc) α} :
    iprop(∃ f, outLPts c f)
      ⊢ iprop((outLPts c w -∗ wp frame (wpE (defs₀ (F := F)) 𝒱₀ (c : Thread nD τ) none) Set.univ (k ⟨⟩) Q)
          -∗ wp frame (wpE (defs₀ (F := F)) 𝒱₀ (c : Thread nD τ) none) Set.univ
              (.op (.store outL (Rect.unit (s := S512x8) off S512x8.size hin) w Finset.univ hl hm) k) Q) := by
  have hset : (outL).view.set = Finset.univ := View.set_whole _
  unfold outLPts
  iintro ⟨%f, H⟩ Hk
  iapply (wp_store 𝒱₀ (c : Thread nD τ) none Set.univ (m := outL) (r := Rect.unit (s := S512x8) off S512x8.size hin) (Mk := Finset.univ)
    (fun x _ => by show x ∈ (outL).view.set; rw [hset]; exact Finset.mem_univ _)) $$ H
  iintro H
  iapply Hk
  iapply (Entails.of_eq (congrArg (fun g => ((outL).view.loc (c : Thread nD τ) ↦[(outL).view.set]{fullShare} g : sProp 𝕄))
    (Memref.write_access_unit_zero_univ (Elt F) cc0_scratch1 hoff hin f w)))
  iexact H

/-- A load of a landing slot that has received its message yields the message. -/
theorem step_readL (r : Fin 4) {off : Fin 3 → ℕ} (hoff : off = ![r.val, 0, 0]) {hin} {hl} {α : Type} {Q : α → sProp 𝕄}
    {k : Vec F S1x512x8 .f32 → Prog (TpuEff nD τ sig (Elt F) Λ₀ .tc) α} :
    recvLPay m c r
      ⊢ iprop((∀ v, ⌜shapeCast S512x8 v shapeCasts_S1x512x8_S512x8 = packL (lAt m r (peer r c))⌝ -∗ (∃ f, slotLPts c r f)
            -∗ wp frame (wpE (defs₀ (F := F)) 𝒱₀ (c : Thread nD τ) none) Set.univ (k v) Q)
          -∗ wp frame (wpE (defs₀ (F := F)) 𝒱₀ (c : Thread nD τ) none) Set.univ
              (.op (.load inL (Rect.unit (s := S4x512x8) off S1x512x8.size hin).toLoadRect hl) k) Q) := by
  subst hoff
  unfold recvLPay slotLPts
  iintro ⟨%f, %hf, H⟩ Hk
  iapply (wp_load_rect 𝒱₀ (c : Thread nD τ) none Set.univ (m := inL) (r := rectL r)
    (S := (slotL r).view.set) (subset_of_eq (View.set_reshape _ _).symm)) $$ H
  iintro H
  iapply Hk $$ %(((inL).access (rectL r)).read (Elt F) f) [] [H]
  · ipureintro; exact hf
  · iexists f; iexact H

end Access

end Cert.KernelIdeal.Hyper

end
-- ==== Proof.KernelIdeal.Parts1.lean ====
/-
# The kernel's parts up to the first exchange

Each theorem runs one part of the kernel's text: given what the part uses, it runs safely, gives back what is
listed, and returns the stated values.

-/
module

public import proofs.«01_k».proof.Proof.KernelIdeal.Access

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Parts

variable (m : (ℓ : Loc nD τ sig) → Buf (Elt F) ℓ) (K : Dev nD × Option (Fin 16) → ℕ) (c : Dev nD)

/-- Device `c`'s staged input `b` holds `X`. -/
abbrev held (b : Ref sig .tc) (X : b.ty.Contents (Elt F)) : sProp 𝕄 := ((c : Thread nD τ).loc b) ↦{fullShare} X

theorem zeros2 : (![0, 0] : Fin 2 → ℕ) = fun _ => 0 := by funext a; fin_cases a <;> rfl
theorem zeros3 : (![0, 0, 0] : Fin 3 → ℕ) = fun _ => 0 := by funext a; fin_cases a <;> rfl
theorem zeros4 : (![0, 0, 0, 0] : Fin 4 → ℕ) = fun _ => 0 := by funext a; fin_cases a <;> rfl

/-- A load of the whole of staged array 0 yields its contents. -/
theorem step_input0 (X : FVec F S1x512x1024 .bf16) {off : Fin 3 → ℕ} (hoff : off = fun _ => 0) {hin} {hl} {α : Type} {Q : α → sProp 𝕄}
    {k : Vec F S1x512x1024 .bf16 → Prog (TpuEff nD τ sig (Elt F) Λ₀ .tc) α} :
    held c cc0_stg0_0 X
      ⊢ iprop((held c cc0_stg0_0 X -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg0_0) (Rect.unit (s := S1x512x1024) off S1x512x1024.size hin).toLoadRect hl) k) Q) := by
  have e : View.readAt (Elt F) (Memref.whole cc0_stg0_0).view (Rect.unit (s := S1x512x1024) off S1x512x1024.size hin).toLoadRect X = X :=
    Memref.readAt_unit_zero (Elt F) cc0_stg0_0 hoff _ X
  iintro H Hk
  iapply (wp_load 𝒱₀ (c : Thread nD τ) none Set.univ (m := Memref.whole cc0_stg0_0) (Finset.subset_univ _)) $$ H
  iintro H
  rw [e]
  iapply Hk
  iexact H

/-- A load of the whole of staged array 1 yields its contents. -/
theorem step_input1 (X : FVec F S1024x1024 .bf16) {off : Fin 2 → ℕ} (hoff : off = fun _ => 0) {hin} {hl} {α : Type} {Q : α → sProp 𝕄}
    {k : Vec F S1024x1024 .bf16 → Prog (TpuEff nD τ sig (Elt F) Λ₀ .tc) α} :
    held c cc0_stg1_0 X
      ⊢ iprop((held c cc0_stg1_0 X -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg1_0) (Rect.unit (s := S1024x1024) off S1024x1024.size hin).toLoadRect hl) k) Q) := by
  have e : View.readAt (Elt F) (Memref.whole cc0_stg1_0).view (Rect.unit (s := S1024x1024) off S1024x1024.size hin).toLoadRect X = X :=
    Memref.readAt_unit_zero (Elt F) cc0_stg1_0 hoff _ X
  iintro H Hk
  iapply (wp_load 𝒱₀ (c : Thread nD τ) none Set.univ (m := Memref.whole cc0_stg1_0) (Finset.subset_univ _)) $$ H
  iintro H
  rw [e]
  iapply Hk
  iexact H

/-- A load of the whole of staged array 2 yields its contents. -/
theorem step_input2 (X : FVec F S1024x1024 .bf16) {off : Fin 2 → ℕ} (hoff : off = fun _ => 0) {hin} {hl} {α : Type} {Q : α → sProp 𝕄}
    {k : Vec F S1024x1024 .bf16 → Prog (TpuEff nD τ sig (Elt F) Λ₀ .tc) α} :
    held c cc0_stg2_0 X
      ⊢ iprop((held c cc0_stg2_0 X -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg2_0) (Rect.unit (s := S1024x1024) off S1024x1024.size hin).toLoadRect hl) k) Q) := by
  have e : View.readAt (Elt F) (Memref.whole cc0_stg2_0).view (Rect.unit (s := S1024x1024) off S1024x1024.size hin).toLoadRect X = X :=
    Memref.readAt_unit_zero (Elt F) cc0_stg2_0 hoff _ X
  iintro H Hk
  iapply (wp_load 𝒱₀ (c : Thread nD τ) none Set.univ (m := Memref.whole cc0_stg2_0) (Finset.subset_univ _)) $$ H
  iintro H
  rw [e]
  iapply Hk
  iexact H

/-- A load of the whole of staged array 3 yields its contents. -/
theorem step_input3 (X : FVec F S1x2048x2x128 .bf16) {off : Fin 4 → ℕ} (hoff : off = fun _ => 0) {hin} {hl} {α : Type} {Q : α → sProp 𝕄}
    {k : Vec F S1x2048x2x128 .bf16 → Prog (TpuEff nD τ sig (Elt F) Λ₀ .tc) α} :
    held c cc0_stg3_0 X
      ⊢ iprop((held c cc0_stg3_0 X -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg3_0) (Rect.unit (s := S1x2048x2x128) off S1x2048x2x128.size hin).toLoadRect hl) k) Q) := by
  have e : View.readAt (Elt F) (Memref.whole cc0_stg3_0).view (Rect.unit (s := S1x2048x2x128) off S1x2048x2x128.size hin).toLoadRect X = X :=
    Memref.readAt_unit_zero (Elt F) cc0_stg3_0 hoff _ X
  iintro H Hk
  iapply (wp_load 𝒱₀ (c : Thread nD τ) none Set.univ (m := Memref.whole cc0_stg3_0) (Finset.subset_univ _)) $$ H
  iintro H
  rw [e]
  iapply Hk
  iexact H

/-- A load of the whole of staged array 4 yields its contents. -/
theorem step_input4 (X : FVec F S1x2048x2x128 .bf16) {off : Fin 4 → ℕ} (hoff : off = fun _ => 0) {hin} {hl} {α : Type} {Q : α → sProp 𝕄}
    {k : Vec F S1x2048x2x128 .bf16 → Prog (TpuEff nD τ sig (Elt F) Λ₀ .tc) α} :
    held c cc0_stg4_0 X
      ⊢ iprop((held c cc0_stg4_0 X -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg4_0) (Rect.unit (s := S1x2048x2x128) off S1x2048x2x128.size hin).toLoadRect hl) k) Q) := by
  have e : View.readAt (Elt F) (Memref.whole cc0_stg4_0).view (Rect.unit (s := S1x2048x2x128) off S1x2048x2x128.size hin).toLoadRect X = X :=
    Memref.readAt_unit_zero (Elt F) cc0_stg4_0 hoff _ X
  iintro H Hk
  iapply (wp_load 𝒱₀ (c : Thread nD τ) none Set.univ (m := Memref.whole cc0_stg4_0) (Finset.subset_univ _)) $$ H
  iintro H
  rw [e]
  iapply Hk
  iexact H

/-- A load of the whole of staged array 5 yields its contents. -/
theorem step_input5 (X : FVec F S1x512x1024 .f32) {off : Fin 3 → ℕ} (hoff : off = fun _ => 0) {hin} {hl} {α : Type} {Q : α → sProp 𝕄}
    {k : Vec F S1x512x1024 .f32 → Prog (TpuEff nD τ sig (Elt F) Λ₀ .tc) α} :
    held c cc0_stg5_0 X
      ⊢ iprop((held c cc0_stg5_0 X -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg5_0) (Rect.unit (s := S1x512x1024) off S1x512x1024.size hin).toLoadRect hl) k) Q) := by
  have e : View.readAt (Elt F) (Memref.whole cc0_stg5_0).view (Rect.unit (s := S1x512x1024) off S1x512x1024.size hin).toLoadRect X = X :=
    Memref.readAt_unit_zero (Elt F) cc0_stg5_0 hoff _ X
  iintro H Hk
  iapply (wp_load 𝒱₀ (c : Thread nD τ) none Set.univ (m := Memref.whole cc0_stg5_0) (Finset.subset_univ _)) $$ H
  iintro H
  rw [e]
  iapply Hk
  iexact H

/-- The entry barrier and the loads of the tokens and the query projection. -/
theorem part1 (Q : (Σ' (_ : Dev nD) (_ : BitVec 32) (_ : BitVec 32) (_ : BitVec 32) (_ : BitVec 32), FVec F S512x1024 .bf16) → sProp 𝕄) :
    iprop((records m K ∗ levAts L lv ∗ owing c (O₀ c) ∗ cred (tallyAt (barCell c) () 4) ∗ atPos ER (barCell c) 0 ∅ 0 ∗ dutyTok ER (barCell (peer 0 c)) 0 0 ∗ dutyTok ER (barCell (peer 1 c)) 0 1 ∗ dutyTok ER (barCell (peer 2 c)) 0 2 ∗ dutyTok ER (barCell (peer 3 c)) 0 3 ∗ (∃ f, slotOPts c 0 f) ∗ (∃ f, slotOPts c 1 f) ∗ (∃ f, slotOPts c 2 f) ∗ (∃ f, slotOPts c 3 f) ∗ (∃ f, slotLPts c 0 f) ∗ (∃ f, slotLPts c 1 f) ∗ (∃ f, slotLPts c 2 f) ∗ (∃ f, slotLPts c 3 f) ∗ held c cc0_stg0_0 (xIn m c) ∗ held c cc0_stg1_0 (wqIn m c))
        ∗ (∀ v3 v4 v5 v6, (owing c (D0 c) ∗ semVal (barCell c) 0 ∗ barPay c 0 ∗ barPay c 1 ∗ barPay c 2 ∗ barPay c 3 ∗ held c cc0_stg0_0 (xIn m c) ∗ held c cc0_stg1_0 (wqIn m c)) -∗ Q ⟨c, v3, v4, v5, v6, k0_pay1 (xIn m c) (wqIn m c)⟩))
      ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 ) Q := by
  simp only [k0_part1_eq_skeleton]; unfold k0_part1_skel
  simp only [semSignalWord, semWaitWord, Prog.lift, Prog.bind_op, Prog.bind_ret, Prog.pure_eq_ret, wp_deviceId]
  iintro ⟨⟨#HR, #Hl, HO, Hcb, Hab, Ht0, Ht1, Ht2, Ht3, So0, So1, So2, So3, Sl0, Sl1, Sl2, Sl3, Hx, Hw⟩, Hk⟩
  iapply (step_signal m K c 0 _ (dev1_eq c) _ rfl _) $$ [HO Ht0 So0 Sl0]
  · isplitr; · iexact HR
    isplitl [HO]; · iexact HO
    isplitl [Ht0]; · iexact Ht0
    isplitl [So0]; · iexact So0
    iexact Sl0
  iintro HO
  iapply (step_signal m K c 1 _ (dev2_eq c) _ rfl _) $$ [HO Ht1 So1 Sl1]
  · isplitr; · iexact HR
    isplitl [HO]; · iexact HO
    isplitl [Ht1]; · iexact Ht1
    isplitl [So1]; · iexact So1
    iexact Sl1
  iintro HO
  iapply (step_signal m K c 2 _ (dev3_eq c) _ rfl _) $$ [HO Ht2 So2 Sl2]
  · isplitr; · iexact HR
    isplitl [HO]; · iexact HO
    isplitl [Ht2]; · iexact Ht2
    isplitl [So2]; · iexact So2
    iexact Sl2
  iintro HO
  iapply (step_signal m K c 3 _ (dev4_eq c) _ rfl _) $$ [HO Ht3 So3 Sl3]
  · isplitr; · iexact HR
    isplitl [HO]; · iexact HO
    isplitl [Ht3]; · iexact Ht3
    isplitl [So3]; · iexact So3
    iexact Sl3
  iintro HO
  iapply (step_barrier m K c _ rfl (D0 c) (above_D0 c (by decide))) $$ [Hcb HO Hab]
  · isplitr; · iexact HR
    isplitl [Hcb]; · iexact Hcb
    isplitl [HO]; · iexact HO
    isplitr; · iexact Hl
    iexact Hab
  iintro ⟨HO, Hzb, P0, P1, P2, P3⟩
  iapply (step_input0 c (xIn m c) zeros3) $$ [Hx]
  · iexact Hx
  iintro Hx
  iapply (step_input1 c (wqIn m c) zeros2) $$ [Hw]
  · iexact Hw
  iintro Hw
  rw [wp_ret]; imodintro
  iapply Hk $$ %_ %_ %_ %_ [HO Hzb P0 P1 P2 P3 Hx Hw]
  · isplitl [HO]; · iexact HO
    isplitl [Hzb]; · iexact Hzb
    isplitl [P0]; · iexact P0
    isplitl [P1]; · iexact P1
    isplitl [P2]; · iexact P2
    isplitl [P3]; · iexact P3
    isplitl [Hx]; · iexact Hx
    iexact Hw
/-- The loads of the keys and the values. -/
theorem part2 (q : FVec F S512x1024 .bf16) (Q : (Σ' (_ : FVec F S2048x256 .bf16) (_ : FVec F S2048x256 .bf16) (_ : FVec F S512x1 .f32) (_ : FVec F S512x128 .f32) (_ : FVec F S512x1 .f32) (_ : FVec F S512x128 .f32) (_ : FVec F S512x1 .f32) (_ : FVec F S512x128 .f32) (_ : FVec F S512x1 .f32) (_ : FVec F S512x128 .f32), FVec F S512x128 .bf16) → sProp 𝕄) :
    iprop((held c cc0_stg3_0 (kIn m c) ∗ held c cc0_stg4_0 (vIn m c))
        ∗ ((held c cc0_stg3_0 (kIn m c) ∗ held c cc0_stg4_0 (vIn m c)) -∗ Q ⟨k0_pay2 (kIn m c), k0_pay3 (vIn m c), k0_pay5 q (kIn m c), k0_pay6 q (kIn m c) (vIn m c), k0_pay8 q (kIn m c), k0_pay9 q (kIn m c) (vIn m c), k0_pay11 q (kIn m c), k0_pay12 q (kIn m c) (vIn m c), k0_pay14 q (kIn m c), k0_pay15 q (kIn m c) (vIn m c), k0_pay16 q⟩))
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 q) Q := by
  simp only [k0_part2_eq_skeleton]; unfold k0_part2_skel
  simp only [semSignalWord, semWaitWord, Prog.lift, Prog.bind_op, Prog.bind_ret, Prog.pure_eq_ret, wp_deviceId]
  iintro ⟨⟨Hk', Hv⟩, Hk⟩
  iapply (step_input3 c (kIn m c) zeros4) $$ [Hk']
  · iexact Hk'
  iintro Hk'
  iapply (step_input4 c (vIn m c) zeros4) $$ [Hv]
  · iexact Hv
  iintro Hv
  rw [wp_ret]; imodintro
  iapply Hk
  isplitl [Hk']; · iexact Hk'
  iexact Hv
/-- The local attention, its unnormalised result written to the outgoing buffer. -/
theorem part3 (q : FVec F S512x1024 .bf16) (k v : Vec F S1x2048x2x128 .bf16) (Q : (Σ' (_ : FVec F S512x1024 .f32), FVec F S512x8 .f32) → sProp 𝕄) :
    iprop(((∃ f, outOPts c f) ∗ (∃ f, outLPts c f))
        ∗ ((outOPts c (packO (locO q k v)) ∗ (∃ f, outLPts c f)) -∗ Q ⟨locO q k v, locL q k⟩))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 q (k0_pay2 k) (k0_pay3 v) (k0_pay5 q k) (k0_pay6 q k v) (k0_pay8 q k) (k0_pay9 q k v) (k0_pay11 q k) (k0_pay12 q k v) (k0_pay14 q k) (k0_pay15 q k v) (k0_pay16 q)) Q := by
  simp only [k0_part3_eq_skeleton]; unfold k0_part3_skel
  simp only [semSignalWord, semWaitWord, Prog.lift, Prog.bind_op, Prog.bind_ret, Prog.pure_eq_ret, wp_deviceId]
  unfold locO locL
  iintro ⟨⟨Ho, Hd⟩, Hk⟩
  iapply (step_peekO c) $$ [Ho]
  · iexact Ho
  iintro %_ Ho
  iapply (step_putO c _ zeros2) $$ [Ho]
  · iexact Ho
  iintro Ho
  iapply (step_peekL c) $$ [Hd]
  · iexact Hd
  iintro %_ Hd
  rw [wp_ret]; imodintro
  iapply Hk
  isplitl [Ho]; · iexact Ho
  iexact Hd
end Parts

end Cert.KernelIdeal.Hyper

end
-- ==== Proof.KernelIdeal.Parts2.lean ====
/-
# The kernel's parts that exchange and combine

Four rounds: send both running totals to the round's partner, wait for both sends and both receipts, add what was
received, and put the new totals in the outgoing buffers.

-/
module

public import proofs.«01_k».proof.Proof.KernelIdeal.Parts1

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Parts

variable (m : (ℓ : Loc nD τ sig) → Buf (Elt F) ℓ) (K : Dev nD × Option (Fin 16) → ℕ) (c : Dev nD)

/-- The wait of an attention send: the outgoing buffer is back. -/
theorem wait_sO (r : Fin 4) (s : DmaSem sig) (hs : s = dsem (sO r)) {sp sp' : Space} {sh sh' : Shape} {e e' : EltTy} {κ' : Kind}
    {src : Memref sig .tc sp' sh' e'} (dst : Memref sig κ' sp sh e) {hsrc : src.view.WordExact} {hdst : dst.view.WordExact}
    (hN : dst.view.dmaCredit = NO) (O : CellTallies nD τ sig Unit) (hO : Above (2 + r.val) O)
    {α : Type} {Q : α → sProp 𝕄} {k : PUnit → Prog (TpuEff nD τ sig (Elt F) Λ₀ .tc) α} :
    iprop(records m K ∗ cred (tallyAt (dcell c (sO r)) () NO) ∗ owing c O ∗ levAts L lv ∗ atPos ER (dcell c (sO r)) 0 ∅ 0)
      ⊢ iprop(((owing c O ∗ semVal (dcell c (sO r)) 0 ∗ (∃ f, outOPts c f)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  have h := step_wait (F := F) m K c (sO r) s hs (src := src) (dst := dst) (hsrc := hsrc) (hdst := hdst) NO hN (amount_sO m c r 0)
    (Q := Q) (k := k) (2 + r.val) (by rw [lv_sO]; exact Nat.zero_le _) O hO
  rw [payload_sO] at h
  exact h

/-- The wait of an attention receipt: the slot holds the partner's message. -/
theorem wait_rO (r : Fin 4) (s : DmaSem sig) (hs : s = dsem (rO r)) {sp sp' : Space} {sh sh' : Shape} {e e' : EltTy} {κ' : Kind}
    {src : Memref sig .tc sp' sh' e'} (dst : Memref sig κ' sp sh e) {hsrc : src.view.WordExact} {hdst : dst.view.WordExact}
    (hN : dst.view.dmaCredit = NO) (O : CellTallies nD τ sig Unit) (hO : Above (2 + r.val) O)
    {α : Type} {Q : α → sProp 𝕄} {k : PUnit → Prog (TpuEff nD τ sig (Elt F) Λ₀ .tc) α} :
    iprop(records m K ∗ cred (tallyAt (dcell c (rO r)) () NO) ∗ owing c O ∗ levAts L lv ∗ atPos ER (dcell c (rO r)) 0 ∅ 0)
      ⊢ iprop(((owing c O ∗ semVal (dcell c (rO r)) 0 ∗ recvOPay m c r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  have h := step_wait (F := F) m K c (rO r) s hs (src := src) (dst := dst) (hsrc := hsrc) (hdst := hdst) NO hN (amount_rO m c r 0)
    (Q := Q) (k := k) (2 + r.val) (by rw [lv_rO]) O hO
  rw [payload_rO] at h
  exact h

/-- The wait of a denominator send: the outgoing buffer is back. -/
theorem wait_sL (r : Fin 4) (s : DmaSem sig) (hs : s = dsem (sL r)) {sp sp' : Space} {sh sh' : Shape} {e e' : EltTy} {κ' : Kind}
    {src : Memref sig .tc sp' sh' e'} (dst : Memref sig κ' sp sh e) {hsrc : src.view.WordExact} {hdst : dst.view.WordExact}
    (hN : dst.view.dmaCredit = NL) (O : CellTallies nD τ sig Unit) (hO : Above (2 + r.val) O)
    {α : Type} {Q : α → sProp 𝕄} {k : PUnit → Prog (TpuEff nD τ sig (Elt F) Λ₀ .tc) α} :
    iprop(records m K ∗ cred (tallyAt (dcell c (sL r)) () NL) ∗ owing c O ∗ levAts L lv ∗ atPos ER (dcell c (sL r)) 0 ∅ 0)
      ⊢ iprop(((owing c O ∗ semVal (dcell c (sL r)) 0 ∗ (∃ f, outLPts c f)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  have h := step_wait (F := F) m K c (sL r) s hs (src := src) (dst := dst) (hsrc := hsrc) (hdst := hdst) NL hN (amount_sL m c r 0)
    (Q := Q) (k := k) (2 + r.val) (by rw [lv_sL]; exact Nat.zero_le _) O hO
  rw [payload_sL] at h
  exact h

/-- The wait of a denominator receipt: the slot holds the partner's message. -/
theorem wait_rL (r : Fin 4) (s : DmaSem sig) (hs : s = dsem (rL r)) {sp sp' : Space} {sh sh' : Shape} {e e' : EltTy} {κ' : Kind}
    {src : Memref sig .tc sp' sh' e'} (dst : Memref sig κ' sp sh e) {hsrc : src.view.WordExact} {hdst : dst.view.WordExact}
    (hN : dst.view.dmaCredit = NL) (O : CellTallies nD τ sig Unit) (hO : Above (2 + r.val) O)
    {α : Type} {Q : α → sProp 𝕄} {k : PUnit → Prog (TpuEff nD τ sig (Elt F) Λ₀ .tc) α} :
    iprop(records m K ∗ cred (tallyAt (dcell c (rL r)) () NL) ∗ owing c O ∗ levAts L lv ∗ atPos ER (dcell c (rL r)) 0 ∅ 0)
      ⊢ iprop(((owing c O ∗ semVal (dcell c (rL r)) 0 ∗ recvLPay m c r) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  have h := step_wait (F := F) m K c (rL r) s hs (src := src) (dst := dst) (hsrc := hsrc) (hdst := hdst) NL hN (amount_rL m c r 0)
    (Q := Q) (k := k) (2 + r.val) (by rw [lv_rL]) O hO
  rw [payload_rL] at h
  exact h

/-- Round 0: both sends, and the waits for the attention ones. -/
theorem part4 (v3 : BitVec 32) (Q : PUnit → sProp 𝕄) :
    iprop((records m K ∗ levAts L lv ∗ owing c (D0 c) ∗ (∃ f, outLPts c f) ∗ outOPts c (packO (oAt m 0 c)) ∗ (∃ f, slotOPts (peer 0 c) 0 f) ∗ (∃ f, slotLPts (peer 0 c) 0 f) ∗ dutyTok ER (dcell c (sO 0)) 0 0 ∗ dutyTok ER (dcell (peer 0 c) (rO 0)) 0 0 ∗ dutyTok ER (dcell c (sL 0)) 0 0 ∗ dutyTok ER (dcell (peer 0 c) (rL 0)) 0 0 ∗ atPos ER (dcell c (sO 0)) 0 ∅ 0 ∗ atPos ER (dcell c (rO 0)) 0 ∅ 0 ∗ cred (tallyAt (dcell c (rO 0)) () NO))
        ∗ ((owing c (D1 c) ∗ semVal (dcell c (sO 0)) 0 ∗ semVal (dcell c (rO 0)) 0 ∗ (∃ f, outOPts c f) ∗ recvOPay m c 0 ∗ cred (tallyAt (dcell c (sL 0)) () NL)) -∗ Q ⟨⟩))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 c v3 (lAt m 0 c)) Q := by
  simp only [k0_part4_eq_skeleton]; unfold k0_part4_skel
  simp only [semSignalWord, semWaitWord, Prog.lift, Prog.bind_op, Prog.bind_ret, Prog.pure_eq_ret, wp_deviceId]
  iintro ⟨⟨#HR, #Hl, D0, LX0, O0, Bo0, Bl0, TsO0, TrO0, TsL0, TrL0, AsO0, ArO0, CrO0⟩, Hk⟩
  iapply (step_putL c (packL (lAt m 0 c)) zeros2) $$ [LX0]
  · iexact LX0
  iintro L0
  iapply (step_sendO m K c 0 _ (dev5_eq c) _ rfl _ _ rfl rfl (D1 c + tL c 0)) $$ [O0 Bo0 D0 TsO0 TrO0]
  · isplitr; · iexact HR
    isplitl [O0]; · iexact O0
    isplitl [Bo0]; · iexact Bo0
    isplitl [D0]; · iexact D0
    isplitl [TsO0]; · iexact TsO0
    iexact TrO0
  iintro ⟨CsO0, Dm0⟩
  iapply (step_sendL m K c 0 _ (dev6_eq c) _ rfl _ _ rfl rfl (D1 c)) $$ [L0 Bl0 Dm0 TsL0 TrL0]
  · isplitr; · iexact HR
    isplitl [L0]; · iexact L0
    isplitl [Bl0]; · iexact Bl0
    isplitl [Dm0]; · iexact Dm0
    isplitl [TsL0]; · iexact TsL0
    iexact TrL0
  iintro ⟨CsL0, D1⟩
  iapply (wait_sO m K c 0 _ rfl outO creditOutO (D1 c) (above_D1 c (by decide))) $$ [CsO0 D1 AsO0]
  · isplitr; · iexact HR
    isplitl [CsO0]; · iexact CsO0
    isplitl [D1]; · iexact D1
    isplitr; · iexact Hl
    iexact AsO0
  iintro ⟨D1, ZsO0, OX0⟩
  iapply (wait_rO m K c 0 _ rfl (slotO 0) (creditO 0) (D1 c) (above_D1 c (by decide))) $$ [CrO0 D1 ArO0]
  · isplitr; · iexact HR
    isplitl [CrO0]; · iexact CrO0
    isplitl [D1]; · iexact D1
    isplitr; · iexact Hl
    iexact ArO0
  iintro ⟨D1, ZrO0, Mo0⟩
  rw [wp_ret]; imodintro
  iapply Hk
  isplitl [D1]; · iexact D1
  isplitl [ZsO0]; · iexact ZsO0
  isplitl [ZrO0]; · iexact ZrO0
  isplitl [OX0]; · iexact OX0
  isplitl [Mo0]; · iexact Mo0
  iexact CsL0
/-- Round 0: the waits for the denominator copies, and the new totals. -/
theorem part5 (v3 v4 : BitVec 32) (Q : (Σ' (_ : FVec F S512x1024 .f32), FVec F S512x8 .f32) → sProp 𝕄) :
    iprop((records m K ∗ levAts L lv ∗ owing c (D1 c) ∗ (∃ f, outOPts c f) ∗ recvOPay m c 0 ∗ cred (tallyAt (dcell c (sL 0)) () NL) ∗ atPos ER (dcell c (sL 0)) 0 ∅ 0 ∗ cred (tallyAt (dcell c (rL 0)) () NL) ∗ atPos ER (dcell c (rL 0)) 0 ∅ 0)
        ∗ ((owing c (D1 c) ∗ semVal (dcell c (sL 0)) 0 ∗ semVal (dcell c (rL 0)) 0 ∗ (∃ f, slotOPts c 0 f) ∗ (∃ f, slotLPts c 0 f) ∗ outOPts c (packO (oAt m 1 c)) ∗ outLPts c (packL (lAt m 1 c))) -∗ Q ⟨oAt m 1 c, lAt m 1 c⟩))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 v3 v4 (oAt m 0 c) (lAt m 0 c)) Q := by
  simp only [k0_part5_eq_skeleton]; unfold k0_part5_skel
  simp only [semSignalWord, semWaitWord, Prog.lift, Prog.bind_op, Prog.bind_ret, Prog.pure_eq_ret, wp_deviceId]
  iintro ⟨⟨#HR, #Hl, D1, OX0, Mo0, CsL0, AsL0, CrL0, ArL0⟩, Hk⟩
  iapply (wait_sL m K c 0 _ rfl outL creditOutL (D1 c) (above_D1 c (by decide))) $$ [CsL0 D1 AsL0]
  · isplitr; · iexact HR
    isplitl [CsL0]; · iexact CsL0
    isplitl [D1]; · iexact D1
    isplitr; · iexact Hl
    iexact AsL0
  iintro ⟨D1, ZsL0, LX0⟩
  iapply (wait_rL m K c 0 _ rfl (slotL 0) (creditL 0) (D1 c) (above_D1 c (by decide))) $$ [CrL0 D1 ArL0]
  · isplitr; · iexact HR
    isplitl [CrL0]; · iexact CrL0
    isplitl [D1]; · iexact D1
    isplitr; · iexact Hl
    iexact ArL0
  iintro ⟨D1, ZrL0, Ml0⟩
  iapply (step_readO m c 0 rfl) $$ [Mo0]
  · iexact Mo0
  iintro %w %hw So0
  iapply (step_readL m c 0 rfl) $$ [Ml0]
  · iexact Ml0
  iintro %w' %hw' Sl0
  have eO : k0_pay25 (oAt m 0 c) w = oAt m 1 c := congrArg (addO (oAt m 0 c)) hw
  have eL : k0_pay26 (lAt m 0 c) w' = lAt m 1 c := congrArg (addL (lAt m 0 c)) hw'
  have pO : k0_pay27 (oAt m 0 c) w = packO (oAt m 1 c) := congrArg packO eO
  have pL : k0_pay28 (lAt m 0 c) w' = packL (lAt m 1 c) := congrArg packL eL
  rw [pO, pL, eO, eL]
  iapply (step_peekO c) $$ [OX0]
  · iexact OX0
  iintro %_ OX0
  iapply (step_putO c _ zeros2) $$ [OX0]
  · iexact OX0
  iintro O1
  iapply (step_peekL c) $$ [LX0]
  · iexact LX0
  iintro %_ LX0
  iapply (step_putL c _ zeros2) $$ [LX0]
  · iexact LX0
  iintro L1
  rw [wp_ret]; imodintro
  iapply Hk
  isplitl [D1]; · iexact D1
  isplitl [ZsL0]; · iexact ZsL0
  isplitl [ZrL0]; · iexact ZrL0
  isplitl [So0]; · iexact So0
  isplitl [Sl0]; · iexact Sl0
  isplitl [O1]; · iexact O1
  iexact L1
/-- Round 1: both sends, and three of the four waits. -/
theorem part6 (v4 : BitVec 32) (Q : PUnit → sProp 𝕄) :
    iprop((records m K ∗ levAts L lv ∗ owing c (D1 c) ∗ outOPts c (packO (oAt m 1 c)) ∗ outLPts c (packL (lAt m 1 c)) ∗ (∃ f, slotOPts (peer 1 c) 1 f) ∗ (∃ f, slotLPts (peer 1 c) 1 f) ∗ dutyTok ER (dcell c (sO 1)) 0 0 ∗ dutyTok ER (dcell (peer 1 c) (rO 1)) 0 0 ∗ dutyTok ER (dcell c (sL 1)) 0 0 ∗ dutyTok ER (dcell (peer 1 c) (rL 1)) 0 0 ∗ atPos ER (dcell c (sO 1)) 0 ∅ 0 ∗ atPos ER (dcell c (rO 1)) 0 ∅ 0 ∗ cred (tallyAt (dcell c (rO 1)) () NO) ∗ atPos ER (dcell c (sL 1)) 0 ∅ 0)
        ∗ ((owing c (D2 c) ∗ semVal (dcell c (sO 1)) 0 ∗ semVal (dcell c (rO 1)) 0 ∗ semVal (dcell c (sL 1)) 0 ∗ (∃ f, outOPts c f) ∗ (∃ f, outLPts c f) ∗ recvOPay m c 1) -∗ Q ⟨⟩))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 c v4) Q := by
  simp only [k0_part6_eq_skeleton]; unfold k0_part6_skel
  simp only [semSignalWord, semWaitWord, Prog.lift, Prog.bind_op, Prog.bind_ret, Prog.pure_eq_ret, wp_deviceId]
  iintro ⟨⟨#HR, #Hl, D1, O1, L1, Bo1, Bl1, TsO1, TrO1, TsL1, TrL1, AsO1, ArO1, CrO1, AsL1⟩, Hk⟩
  iapply (step_sendO m K c 1 _ (dev7_eq c) _ rfl _ _ rfl rfl (D2 c + tL c 1)) $$ [O1 Bo1 D1 TsO1 TrO1]
  · isplitr; · iexact HR
    isplitl [O1]; · iexact O1
    isplitl [Bo1]; · iexact Bo1
    isplitl [D1]; · iexact D1
    isplitl [TsO1]; · iexact TsO1
    iexact TrO1
  iintro ⟨CsO1, Dm1⟩
  iapply (step_sendL m K c 1 _ (dev8_eq c) _ rfl _ _ rfl rfl (D2 c)) $$ [L1 Bl1 Dm1 TsL1 TrL1]
  · isplitr; · iexact HR
    isplitl [L1]; · iexact L1
    isplitl [Bl1]; · iexact Bl1
    isplitl [Dm1]; · iexact Dm1
    isplitl [TsL1]; · iexact TsL1
    iexact TrL1
  iintro ⟨CsL1, D2⟩
  iapply (wait_sO m K c 1 _ rfl outO creditOutO (D2 c) (above_D2 c (by decide))) $$ [CsO1 D2 AsO1]
  · isplitr; · iexact HR
    isplitl [CsO1]; · iexact CsO1
    isplitl [D2]; · iexact D2
    isplitr; · iexact Hl
    iexact AsO1
  iintro ⟨D2, ZsO1, OX0⟩
  iapply (wait_rO m K c 1 _ rfl (slotO 1) (creditO 1) (D2 c) (above_D2 c (by decide))) $$ [CrO1 D2 ArO1]
  · isplitr; · iexact HR
    isplitl [CrO1]; · iexact CrO1
    isplitl [D2]; · iexact D2
    isplitr; · iexact Hl
    iexact ArO1
  iintro ⟨D2, ZrO1, Mo1⟩
  iapply (wait_sL m K c 1 _ rfl outL creditOutL (D2 c) (above_D2 c (by decide))) $$ [CsL1 D2 AsL1]
  · isplitr; · iexact HR
    isplitl [CsL1]; · iexact CsL1
    isplitl [D2]; · iexact D2
    isplitr; · iexact Hl
    iexact AsL1
  iintro ⟨D2, ZsL1, LX0⟩
  rw [wp_ret]; imodintro
  iapply Hk
  isplitl [D2]; · iexact D2
  isplitl [ZsO1]; · iexact ZsO1
  isplitl [ZrO1]; · iexact ZrO1
  isplitl [ZsL1]; · iexact ZsL1
  isplitl [OX0]; · iexact OX0
  isplitl [LX0]; · iexact LX0
  iexact Mo1
/-- Round 1: the last wait and the new totals; round 2: the attention send. -/
theorem part7 (v4 v5 : BitVec 32) (Q : (Σ' (_ : FVec F S512x1024 .f32) (_ : FVec F S512x8 .f32) (_ : BitVec 32), BitVec 32) → sProp 𝕄) :
    iprop((records m K ∗ levAts L lv ∗ owing c (D2 c) ∗ (∃ f, outOPts c f) ∗ (∃ f, outLPts c f) ∗ recvOPay m c 1 ∗ cred (tallyAt (dcell c (rL 1)) () NL) ∗ atPos ER (dcell c (rL 1)) 0 ∅ 0 ∗ (∃ f, slotOPts (peer 2 c) 2 f) ∗ dutyTok ER (dcell c (sO 2)) 0 0 ∗ dutyTok ER (dcell (peer 2 c) (rO 2)) 0 0)
        ∗ (∀ w z, (owing c (D3 c + tL c 2) ∗ semVal (dcell c (rL 1)) 0 ∗ (∃ f, slotOPts c 1 f) ∗ (∃ f, slotLPts c 1 f) ∗ cred (tallyAt (dcell c (sO 2)) () NO) ∗ outLPts c (packL (lAt m 2 c))) -∗ Q ⟨oAt m 2 c, lAt m 2 c, w, z⟩))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 c v4 v5 (oAt m 1 c) (lAt m 1 c)) Q := by
  simp only [k0_part7_eq_skeleton]; unfold k0_part7_skel
  simp only [semSignalWord, semWaitWord, Prog.lift, Prog.bind_op, Prog.bind_ret, Prog.pure_eq_ret, wp_deviceId]
  iintro ⟨⟨#HR, #Hl, D2, OX0, LX0, Mo1, CrL1, ArL1, Bo2, TsO2, TrO2⟩, Hk⟩
  iapply (wait_rL m K c 1 _ rfl (slotL 1) (creditL 1) (D2 c) (above_D2 c (by decide))) $$ [CrL1 D2 ArL1]
  · isplitr; · iexact HR
    isplitl [CrL1]; · iexact CrL1
    isplitl [D2]; · iexact D2
    isplitr; · iexact Hl
    iexact ArL1
  iintro ⟨D2, ZrL1, Ml1⟩
  iapply (step_readO m c 1 rfl) $$ [Mo1]
  · iexact Mo1
  iintro %w %hw So1
  iapply (step_readL m c 1 rfl) $$ [Ml1]
  · iexact Ml1
  iintro %w' %hw' Sl1
  have eO : k0_pay29 (oAt m 1 c) w = oAt m 2 c := congrArg (addO (oAt m 1 c)) hw
  have eL : k0_pay30 (lAt m 1 c) w' = lAt m 2 c := congrArg (addL (lAt m 1 c)) hw'
  have pO : k0_pay31 (oAt m 1 c) w = packO (oAt m 2 c) := congrArg packO eO
  have pL : k0_pay32 (lAt m 1 c) w' = packL (lAt m 2 c) := congrArg packL eL
  rw [pO, pL, eO, eL]
  iapply (step_peekO c) $$ [OX0]
  · iexact OX0
  iintro %_ OX0
  iapply (step_putO c _ zeros2) $$ [OX0]
  · iexact OX0
  iintro O2
  iapply (step_peekL c) $$ [LX0]
  · iexact LX0
  iintro %_ LX0
  iapply (step_putL c _ zeros2) $$ [LX0]
  · iexact LX0
  iintro L2
  iapply (step_sendO m K c 2 _ (dev9_eq c) _ rfl _ _ rfl rfl (D3 c + tL c 2)) $$ [O2 Bo2 D2 TsO2 TrO2]
  · isplitr; · iexact HR
    isplitl [O2]; · iexact O2
    isplitl [Bo2]; · iexact Bo2
    isplitl [D2]; · iexact D2
    isplitl [TsO2]; · iexact TsO2
    iexact TrO2
  iintro ⟨CsO2, Dm2⟩
  rw [wp_ret]; imodintro
  iapply Hk $$ %_ %_ [Dm2 ZrL1 So1 Sl1 CsO2 L2]
  · isplitl [Dm2]; · iexact Dm2
    isplitl [ZrL1]; · iexact ZrL1
    isplitl [So1]; · iexact So1
    isplitl [Sl1]; · iexact Sl1
    isplitl [CsO2]; · iexact CsO2
    iexact L2
/-- Round 2: the denominator send and the four waits. -/
theorem part8 (v5 v219 z : BitVec 32) (Q : PUnit → sProp 𝕄) :
    iprop((records m K ∗ levAts L lv ∗ owing c (D3 c + tL c 2) ∗ outLPts c (packL (lAt m 2 c)) ∗ (∃ f, slotLPts (peer 2 c) 2 f) ∗ dutyTok ER (dcell c (sL 2)) 0 0 ∗ dutyTok ER (dcell (peer 2 c) (rL 2)) 0 0 ∗ cred (tallyAt (dcell c (sO 2)) () NO) ∗ atPos ER (dcell c (sO 2)) 0 ∅ 0 ∗ cred (tallyAt (dcell c (rO 2)) () NO) ∗ atPos ER (dcell c (rO 2)) 0 ∅ 0 ∗ atPos ER (dcell c (sL 2)) 0 ∅ 0 ∗ cred (tallyAt (dcell c (rL 2)) () NL) ∗ atPos ER (dcell c (rL 2)) 0 ∅ 0)
        ∗ ((owing c (D3 c) ∗ semVal (dcell c (sO 2)) 0 ∗ semVal (dcell c (rO 2)) 0 ∗ semVal (dcell c (sL 2)) 0 ∗ semVal (dcell c (rL 2)) 0 ∗ (∃ f, outOPts c f) ∗ (∃ f, outLPts c f) ∗ recvOPay m c 2 ∗ recvLPay m c 2) -∗ Q ⟨⟩))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 c v5 v219 z) Q := by
  simp only [k0_part8_eq_skeleton]; unfold k0_part8_skel
  simp only [semSignalWord, semWaitWord, Prog.lift, Prog.bind_op, Prog.bind_ret, Prog.pure_eq_ret, wp_deviceId]
  iintro ⟨⟨#HR, #Hl, Dm2, L2, Bl2, TsL2, TrL2, CsO2, AsO2, CrO2, ArO2, AsL2, CrL2, ArL2⟩, Hk⟩
  iapply (step_sendL m K c 2 _ (dev10_eq c) _ rfl _ _ rfl rfl (D3 c)) $$ [L2 Bl2 Dm2 TsL2 TrL2]
  · isplitr; · iexact HR
    isplitl [L2]; · iexact L2
    isplitl [Bl2]; · iexact Bl2
    isplitl [Dm2]; · iexact Dm2
    isplitl [TsL2]; · iexact TsL2
    iexact TrL2
  iintro ⟨CsL2, D3⟩
  iapply (wait_sO m K c 2 _ rfl outO creditOutO (D3 c) (above_D3 c (by decide))) $$ [CsO2 D3 AsO2]
  · isplitr; · iexact HR
    isplitl [CsO2]; · iexact CsO2
    isplitl [D3]; · iexact D3
    isplitr; · iexact Hl
    iexact AsO2
  iintro ⟨D3, ZsO2, OX0⟩
  iapply (wait_rO m K c 2 _ rfl (slotO 2) (creditO 2) (D3 c) (above_D3 c (by decide))) $$ [CrO2 D3 ArO2]
  · isplitr; · iexact HR
    isplitl [CrO2]; · iexact CrO2
    isplitl [D3]; · iexact D3
    isplitr; · iexact Hl
    iexact ArO2
  iintro ⟨D3, ZrO2, Mo2⟩
  iapply (wait_sL m K c 2 _ rfl outL creditOutL (D3 c) (above_D3 c (by decide))) $$ [CsL2 D3 AsL2]
  · isplitr; · iexact HR
    isplitl [CsL2]; · iexact CsL2
    isplitl [D3]; · iexact D3
    isplitr; · iexact Hl
    iexact AsL2
  iintro ⟨D3, ZsL2, LX0⟩
  iapply (wait_rL m K c 2 _ rfl (slotL 2) (creditL 2) (D3 c) (above_D3 c (by decide))) $$ [CrL2 D3 ArL2]
  · isplitr; · iexact HR
    isplitl [CrL2]; · iexact CrL2
    isplitl [D3]; · iexact D3
    isplitr; · iexact Hl
    iexact ArL2
  iintro ⟨D3, ZrL2, Ml2⟩
  rw [wp_ret]; imodintro
  iapply Hk
  isplitl [D3]; · iexact D3
  isplitl [ZsO2]; · iexact ZsO2
  isplitl [ZrO2]; · iexact ZrO2
  isplitl [ZsL2]; · iexact ZsL2
  isplitl [ZrL2]; · iexact ZrL2
  isplitl [OX0]; · iexact OX0
  isplitl [LX0]; · iexact LX0
  isplitl [Mo2]; · iexact Mo2
  iexact Ml2
/-- Round 2: the new totals; round 3: both sends. -/
theorem part9 (v6 : BitVec 32) (Q : (Σ' (_ : FVec F S512x1024 .f32), FVec F S512x8 .f32) → sProp 𝕄) :
    iprop((records m K ∗ levAts L lv ∗ owing c (D3 c) ∗ (∃ f, outOPts c f) ∗ (∃ f, outLPts c f) ∗ recvOPay m c 2 ∗ recvLPay m c 2 ∗ (∃ f, slotOPts (peer 3 c) 3 f) ∗ (∃ f, slotLPts (peer 3 c) 3 f) ∗ dutyTok ER (dcell c (sO 3)) 0 0 ∗ dutyTok ER (dcell (peer 3 c) (rO 3)) 0 0 ∗ dutyTok ER (dcell c (sL 3)) 0 0 ∗ dutyTok ER (dcell (peer 3 c) (rL 3)) 0 0)
        ∗ ((owing c 0 ∗ (∃ f, slotOPts c 2 f) ∗ (∃ f, slotLPts c 2 f) ∗ cred (tallyAt (dcell c (sO 3)) () NO) ∗ cred (tallyAt (dcell c (sL 3)) () NL)) -∗ Q ⟨oAt m 3 c, lAt m 3 c⟩))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 c v6 (oAt m 2 c) (lAt m 2 c)) Q := by
  simp only [k0_part9_eq_skeleton]; unfold k0_part9_skel
  simp only [semSignalWord, semWaitWord, Prog.lift, Prog.bind_op, Prog.bind_ret, Prog.pure_eq_ret, wp_deviceId]
  iintro ⟨⟨#HR, #Hl, D3, OX0, LX0, Mo2, Ml2, Bo3, Bl3, TsO3, TrO3, TsL3, TrL3⟩, Hk⟩
  iapply (step_readO m c 2 rfl) $$ [Mo2]
  · iexact Mo2
  iintro %w %hw So2
  iapply (step_readL m c 2 rfl) $$ [Ml2]
  · iexact Ml2
  iintro %w' %hw' Sl2
  have eO : k0_pay33 (oAt m 2 c) w = oAt m 3 c := congrArg (addO (oAt m 2 c)) hw
  have eL : k0_pay34 (lAt m 2 c) w' = lAt m 3 c := congrArg (addL (lAt m 2 c)) hw'
  have pO : k0_pay35 (oAt m 2 c) w = packO (oAt m 3 c) := congrArg packO eO
  have pL : k0_pay36 (lAt m 2 c) w' = packL (lAt m 3 c) := congrArg packL eL
  rw [pO, pL, eO, eL]
  iapply (step_peekO c) $$ [OX0]
  · iexact OX0
  iintro %_ OX0
  iapply (step_putO c _ zeros2) $$ [OX0]
  · iexact OX0
  iintro O3
  iapply (step_peekL c) $$ [LX0]
  · iexact LX0
  iintro %_ LX0
  iapply (step_putL c _ zeros2) $$ [LX0]
  · iexact LX0
  iintro L3
  iapply (step_sendO m K c 3 _ (dev11_eq c) _ rfl _ _ rfl rfl (0 + tL c 3)) $$ [O3 Bo3 D3 TsO3 TrO3]
  · isplitr; · iexact HR
    isplitl [O3]; · iexact O3
    isplitl [Bo3]; · iexact Bo3
    isplitl [D3]; · iexact D3
    isplitl [TsO3]; · iexact TsO3
    iexact TrO3
  iintro ⟨CsO3, Dm3⟩
  iapply (step_sendL m K c 3 _ (dev12_eq c) _ rfl _ _ rfl rfl 0) $$ [L3 Bl3 Dm3 TsL3 TrL3]
  · isplitr; · iexact HR
    isplitl [L3]; · iexact L3
    isplitl [Bl3]; · iexact Bl3
    isplitl [Dm3]; · iexact Dm3
    isplitl [TsL3]; · iexact TsL3
    iexact TrL3
  iintro ⟨CsL3, D4⟩
  rw [wp_ret]; imodintro
  iapply Hk
  isplitl [D4]; · iexact D4
  isplitl [So2]; · iexact So2
  isplitl [Sl2]; · iexact Sl2
  isplitl [CsO3]; · iexact CsO3
  iexact CsL3
/-- Round 3: the four waits, the final attention total and the last denominator message. -/
theorem part10 (v6 : BitVec 32) (Q : (Σ' (_ : FVec F S512x1024 .f32), FVec F S512x8 .f32) → sProp 𝕄) :
    iprop((records m K ∗ levAts L lv ∗ owing c 0 ∗ cred (tallyAt (dcell c (sO 3)) () NO) ∗ atPos ER (dcell c (sO 3)) 0 ∅ 0 ∗ cred (tallyAt (dcell c (rO 3)) () NO) ∗ atPos ER (dcell c (rO 3)) 0 ∅ 0 ∗ cred (tallyAt (dcell c (sL 3)) () NL) ∗ atPos ER (dcell c (sL 3)) 0 ∅ 0 ∗ cred (tallyAt (dcell c (rL 3)) () NL) ∗ atPos ER (dcell c (rL 3)) 0 ∅ 0)
        ∗ ((owing c 0 ∗ semVal (dcell c (sO 3)) 0 ∗ semVal (dcell c (rO 3)) 0 ∗ semVal (dcell c (sL 3)) 0 ∗ semVal (dcell c (rL 3)) 0 ∗ (∃ f, outOPts c f) ∗ (∃ f, outLPts c f) ∗ (∃ f, slotOPts c 3 f) ∗ (∃ f, slotLPts c 3 f)) -∗ Q ⟨oAt m 4 c, packL (lAt m 3 (peer 3 c))⟩))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 v6 (oAt m 3 c)) Q := by
  simp only [k0_part10_eq_skeleton]; unfold k0_part10_skel
  simp only [semSignalWord, semWaitWord, Prog.lift, Prog.bind_op, Prog.bind_ret, Prog.pure_eq_ret, wp_deviceId]
  iintro ⟨⟨#HR, #Hl, D4, CsO3, AsO3, CrO3, ArO3, CsL3, AsL3, CrL3, ArL3⟩, Hk⟩
  iapply (wait_sO m K c 3 _ rfl outO creditOutO 0 (above_zero _)) $$ [CsO3 D4 AsO3]
  · isplitr; · iexact HR
    isplitl [CsO3]; · iexact CsO3
    isplitl [D4]; · iexact D4
    isplitr; · iexact Hl
    iexact AsO3
  iintro ⟨D4, ZsO3, OX0⟩
  iapply (wait_rO m K c 3 _ rfl (slotO 3) (creditO 3) 0 (above_zero _)) $$ [CrO3 D4 ArO3]
  · isplitr; · iexact HR
    isplitl [CrO3]; · iexact CrO3
    isplitl [D4]; · iexact D4
    isplitr; · iexact Hl
    iexact ArO3
  iintro ⟨D4, ZrO3, Mo3⟩
  iapply (wait_sL m K c 3 _ rfl outL creditOutL 0 (above_zero _)) $$ [CsL3 D4 AsL3]
  · isplitr; · iexact HR
    isplitl [CsL3]; · iexact CsL3
    isplitl [D4]; · iexact D4
    isplitr; · iexact Hl
    iexact AsL3
  iintro ⟨D4, ZsL3, LX0⟩
  iapply (wait_rL m K c 3 _ rfl (slotL 3) (creditL 3) 0 (above_zero _)) $$ [CrL3 D4 ArL3]
  · isplitr; · iexact HR
    isplitl [CrL3]; · iexact CrL3
    isplitl [D4]; · iexact D4
    isplitr; · iexact Hl
    iexact ArL3
  iintro ⟨D4, ZrL3, Ml3⟩
  iapply (step_readO m c 3 rfl) $$ [Mo3]
  · iexact Mo3
  iintro %w %hw So3
  iapply (step_readL m c 3 rfl) $$ [Ml3]
  · iexact Ml3
  iintro %w' %hw' Sl3
  have eO : k0_pay37 (oAt m 3 c) w = oAt m 4 c := congrArg (addO (oAt m 3 c)) hw
  have eL : k0_pay38 w' = packL (lAt m 3 (peer 3 c)) := hw'
  rw [eO, eL]
  rw [wp_ret]; imodintro
  iapply Hk
  isplitl [D4]; · iexact D4
  isplitl [ZsO3]; · iexact ZsO3
  isplitl [ZrO3]; · iexact ZrO3
  isplitl [ZsL3]; · iexact ZsL3
  isplitl [ZrL3]; · iexact ZrL3
  isplitl [OX0]; · iexact OX0
  isplitl [LX0]; · iexact LX0
  isplitl [So3]; · iexact So3
  iexact Sl3
end Parts

end Cert.KernelIdeal.Hyper

end
-- ==== Proof.KernelIdeal.BodyRun.lean ====
/-
# The whole body

The parts put together: what one device's run of the kernel uses and what it leaves.

-/
module

public import proofs.«01_k».proof.Proof.KernelIdeal.Parts2

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Bundles

variable (m : (ℓ : Loc nD τ sig) → Buf (Elt F) ℓ) (c : Dev nD)

/-- The right to make round `r`'s two transfers: a token for each of their four signals. -/
def tokens (r : Fin 4) : sProp 𝕄 :=
  iprop(dutyTok ER (dcell c (sO r)) 0 0 ∗ dutyTok ER (dcell (peer r c) (rO r)) 0 0 ∗ dutyTok ER (dcell c (sL r)) 0 0 ∗ dutyTok ER (dcell (peer r c) (rL r)) 0 0)
/-- The device's places at round `r`'s four semaphores. -/
def places (r : Fin 4) : sProp 𝕄 :=
  iprop(atPos ER (dcell c (sO r)) 0 ∅ 0 ∗ atPos ER (dcell c (rO r)) 0 ∅ 0 ∗ atPos ER (dcell c (sL r)) 0 ∅ 0 ∗ atPos ER (dcell c (rL r)) 0 ∅ 0)
/-- The promises of round `r`'s two receipts. -/
def receipts (r : Fin 4) : sProp 𝕄 :=
  iprop(cred (tallyAt (dcell c (rO r)) () NO) ∗ cred (tallyAt (dcell c (rL r)) () NL))
/-- Round `r`'s two landing slots, whatever they hold. -/
def slots (r : Fin 4) : sProp 𝕄 := iprop((∃ f, slotOPts c r f) ∗ (∃ f, slotLPts c r f))
/-- The tokens of the device's four barrier signals. -/
def barTokens : sProp 𝕄 :=
  iprop(dutyTok ER (barCell (peer 0 c)) 0 0 ∗ dutyTok ER (barCell (peer 1 c)) 0 1 ∗ dutyTok ER (barCell (peer 2 c)) 0 2 ∗ dutyTok ER (barCell (peer 3 c)) 0 3)
/-- What round `r` leaves: its semaphores at zero. -/
def spent (r : Fin 4) : sProp 𝕄 :=
  iprop(semVal (dcell c (sO r)) 0 ∗ semVal (dcell c (rO r)) 0 ∗ semVal (dcell c (sL r)) 0 ∗ semVal (dcell c (rL r)) 0)

/-- What the device alone holds of the protocol at launch. -/
def linear : sProp 𝕄 :=
  iprop(atPos ER (barCell c) 0 ∅ 0 ∗ barTokens c ∗ (places c 0 ∗ tokens c 0) ∗ (places c 1 ∗ tokens c 1) ∗ (places c 2 ∗ tokens c 2) ∗ (places c 3 ∗ tokens c 3))
/-- The promises the device starts with. -/
def promises : sProp 𝕄 :=
  iprop(cred (tallyAt (barCell c) () 4) ∗ receipts c 0 ∗ receipts c 1 ∗ receipts c 2 ∗ receipts c 3)
/-- The kernel's own buffers. -/
def buffers : sProp 𝕄 :=
  iprop((∃ f, outOPts c f) ∗ (∃ f, outLPts c f) ∗ slots c 0 ∗ slots c 1 ∗ slots c 2 ∗ slots c 3)
/-- All seventeen of the device's semaphores at zero. -/
def quiet : sProp 𝕄 := iprop(semVal (barCell c) 0 ∗ spent c 0 ∗ spent c 1 ∗ spent c 2 ∗ spent c 3)

end Bundles

section Body

variable (m : (ℓ : Loc nD τ sig) → Buf (Elt F) ℓ) (K : Dev nD × Option (Fin 16) → ℕ) (c : Dev nD)

/-- A store to the whole result array leaves it with what was stored. -/
theorem step_result (w : FVec F S1x512x1024 .f32) {off : Fin 3 → ℕ} (hoff : off = fun _ => 0) {hin} {hl} {hm} {α : Type} {Q : α → sProp 𝕄}
    {k : PUnit → Prog (TpuEff nD τ sig (Elt F) Λ₀ .tc) α} (f : FVec F S1x512x1024 .f32) :
    held c cc0_stg5_0 f
      ⊢ iprop((held c cc0_stg5_0 w -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg5_0) (Rect.unit (s := S1x512x1024) off S1x512x1024.size hin) w Finset.univ hl hm) k) Q) := by
  iintro H Hk
  iapply (wp_store 𝒱₀ (c : Thread nD τ) none Set.univ (m := Memref.whole cc0_stg5_0) (r := Rect.unit (s := S1x512x1024) off S1x512x1024.size hin)
    (Mk := Finset.univ) (Finset.subset_univ _)) $$ H
  iintro H
  iapply Hk
  iapply (Entails.of_eq (congrArg (fun g => (((c : Thread nD τ).loc cc0_stg5_0) ↦{fullShare} g : sProp 𝕄))
    (Memref.write_access_unit_zero_univ (Elt F) cc0_stg5_0 hoff hin f w)))
  iexact H

/-- The five staged inputs. -/
def inputs : sProp 𝕄 := iprop(held c cc0_stg0_0 (xIn m c) ∗ held c cc0_stg1_0 (wqIn m c) ∗ held c cc0_stg2_0 (woIn m c) ∗ held c cc0_stg3_0 (kIn m c) ∗ held c cc0_stg4_0 (vIn m c))

/-- What a run of the kernel starts from. -/
def before : sProp 𝕄 := iprop(records m K ∗ levAts L lv ∗ owing c (O₀ c) ∗ linear c ∗ promises c ∗ buffers c ∗ inputs m c)
/-- What it leaves, the result aside. -/
def left : sProp 𝕄 := iprop(owing c 0 ∗ quiet c ∗ buffers c ∗ inputs m c)

/-- Everything before the store of the result. -/
theorem part11 (g : FVec F S1x512x1024 .f32) (Q : FVec F S1x512x1024 .f32 → sProp 𝕄) :
    iprop((before m K c ∗ held c cc0_stg5_0 g) ∗ ((left m c ∗ held c cc0_stg5_0 g) -∗ Q (outAt m c)))
      ⊢ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7) Q := by
  simp only [k0_part11_eq_skeleton]; unfold k0_part11_skel
  simp only [Prog.lift, Prog.pure_eq_ret]
  unfold before linear barTokens places tokens promises receipts buffers slots inputs
  iintro ⟨⟨⟨#HR, #Hl, D, ⟨Ab, ⟨Tb0, Tb1, Tb2, Tb3⟩, ⟨⟨AsO0, ArO0, AsL0, ArL0⟩, ⟨TsO0, TrO0, TsL0, TrL0⟩⟩, ⟨⟨AsO1, ArO1, AsL1, ArL1⟩, ⟨TsO1, TrO1, TsL1, TrL1⟩⟩, ⟨⟨AsO2, ArO2, AsL2, ArL2⟩, ⟨TsO2, TrO2, TsL2, TrL2⟩⟩, ⟨⟨AsO3, ArO3, AsL3, ArL3⟩, ⟨TsO3, TrO3, TsL3, TrL3⟩⟩⟩, ⟨Cb, ⟨CrO0, CrL0⟩, ⟨CrO1, CrL1⟩, ⟨CrO2, CrL2⟩, ⟨CrO3, CrL3⟩⟩, ⟨OX0, LX0, ⟨So0, Sl0⟩, ⟨So1, Sl1⟩, ⟨So2, Sl2⟩, ⟨So3, Sl3⟩⟩, ⟨X0, X1, X2, X3, X4⟩⟩, X5⟩, Hk⟩
  rw [wp_bind]
  iapply (part1 m K c _)
  isplitl [D Cb Ab Tb0 Tb1 Tb2 Tb3 So0 So1 So2 So3 Sl0 Sl1 Sl2 Sl3 X0 X1]
  · isplitr; · iexact HR
    isplitr; · iexact Hl
    isplitl [D]; · iexact D
    isplitl [Cb]; · iexact Cb
    isplitl [Ab]; · iexact Ab
    isplitl [Tb0]; · iexact Tb0
    isplitl [Tb1]; · iexact Tb1
    isplitl [Tb2]; · iexact Tb2
    isplitl [Tb3]; · iexact Tb3
    isplitl [So0]; · iexact So0
    isplitl [So1]; · iexact So1
    isplitl [So2]; · iexact So2
    isplitl [So3]; · iexact So3
    isplitl [Sl0]; · iexact Sl0
    isplitl [Sl1]; · iexact Sl1
    isplitl [Sl2]; · iexact Sl2
    isplitl [Sl3]; · iexact Sl3
    isplitl [X0]; · iexact X0
    iexact X1
  unfold barPay
  iintro %v3 %v4 %v5 %v6 ⟨D, Zb, ⟨Bo0, Bl0⟩, ⟨Bo1, Bl1⟩, ⟨Bo2, Bl2⟩, ⟨Bo3, Bl3⟩, X0, X1⟩
  try dsimp only
  rw [wp_bind]
  iapply (part2 m c (k0_pay1 (xIn m c) (wqIn m c)) _)
  isplitl [X3 X4]
  · isplitl [X3]; · iexact X3
    iexact X4
  iintro ⟨X3, X4⟩
  try dsimp only
  rw [wp_bind]
  iapply (part3 c (k0_pay1 (xIn m c) (wqIn m c)) (kIn m c) (vIn m c) _)
  isplitl [OX0 LX0]
  · isplitl [OX0]; · iexact OX0
    iexact LX0
  iintro ⟨O0, LX0⟩
  try dsimp only
  rw [show locO (k0_pay1 (xIn m c) (wqIn m c)) (kIn m c) (vIn m c) = oAt m 0 c from rfl, show locL (k0_pay1 (xIn m c) (wqIn m c)) (kIn m c) = lAt m 0 c from rfl]
  rw [wp_bind]
  iapply (part4 m K c _ _)
  isplitl [D LX0 O0 Bo0 Bl0 TsO0 TrO0 TsL0 TrL0 AsO0 ArO0 CrO0]
  · isplitr; · iexact HR
    isplitr; · iexact Hl
    isplitl [D]; · iexact D
    isplitl [LX0]; · iexact LX0
    isplitl [O0]; · iexact O0
    isplitl [Bo0]; · iexact Bo0
    isplitl [Bl0]; · iexact Bl0
    isplitl [TsO0]; · iexact TsO0
    isplitl [TrO0]; · iexact TrO0
    isplitl [TsL0]; · iexact TsL0
    isplitl [TrL0]; · iexact TrL0
    isplitl [AsO0]; · iexact AsO0
    isplitl [ArO0]; · iexact ArO0
    iexact CrO0
  iintro ⟨D, ZsO0, ZrO0, OX0, Mo0, CsL0⟩
  try dsimp only
  rw [wp_bind]
  iapply (part5 m K c _ _ _)
  isplitl [D OX0 Mo0 CsL0 AsL0 CrL0 ArL0]
  · isplitr; · iexact HR
    isplitr; · iexact Hl
    isplitl [D]; · iexact D
    isplitl [OX0]; · iexact OX0
    isplitl [Mo0]; · iexact Mo0
    isplitl [CsL0]; · iexact CsL0
    isplitl [AsL0]; · iexact AsL0
    isplitl [CrL0]; · iexact CrL0
    iexact ArL0
  iintro ⟨D, ZsL0, ZrL0, So0, Sl0, O1, L1⟩
  try dsimp only
  rw [wp_bind]
  iapply (part6 m K c _ _)
  isplitl [D O1 L1 Bo1 Bl1 TsO1 TrO1 TsL1 TrL1 AsO1 ArO1 CrO1 AsL1]
  · isplitr; · iexact HR
    isplitr; · iexact Hl
    isplitl [D]; · iexact D
    isplitl [O1]; · iexact O1
    isplitl [L1]; · iexact L1
    isplitl [Bo1]; · iexact Bo1
    isplitl [Bl1]; · iexact Bl1
    isplitl [TsO1]; · iexact TsO1
    isplitl [TrO1]; · iexact TrO1
    isplitl [TsL1]; · iexact TsL1
    isplitl [TrL1]; · iexact TrL1
    isplitl [AsO1]; · iexact AsO1
    isplitl [ArO1]; · iexact ArO1
    isplitl [CrO1]; · iexact CrO1
    iexact AsL1
  iintro ⟨D, ZsO1, ZrO1, ZsL1, OX0, LX0, Mo1⟩
  try dsimp only
  rw [wp_bind]
  iapply (part7 m K c _ _ _)
  isplitl [D OX0 LX0 Mo1 CrL1 ArL1 Bo2 TsO2 TrO2]
  · isplitr; · iexact HR
    isplitr; · iexact Hl
    isplitl [D]; · iexact D
    isplitl [OX0]; · iexact OX0
    isplitl [LX0]; · iexact LX0
    isplitl [Mo1]; · iexact Mo1
    isplitl [CrL1]; · iexact CrL1
    isplitl [ArL1]; · iexact ArL1
    isplitl [Bo2]; · iexact Bo2
    isplitl [TsO2]; · iexact TsO2
    iexact TrO2
  iintro %_ %_ ⟨D, ZrL1, So1, Sl1, CsO2, L2⟩
  try dsimp only
  rw [wp_bind]
  iapply (part8 m K c _ _ _ _)
  isplitl [D L2 Bl2 TsL2 TrL2 CsO2 AsO2 CrO2 ArO2 AsL2 CrL2 ArL2]
  · isplitr; · iexact HR
    isplitr; · iexact Hl
    isplitl [D]; · iexact D
    isplitl [L2]; · iexact L2
    isplitl [Bl2]; · iexact Bl2
    isplitl [TsL2]; · iexact TsL2
    isplitl [TrL2]; · iexact TrL2
    isplitl [CsO2]; · iexact CsO2
    isplitl [AsO2]; · iexact AsO2
    isplitl [CrO2]; · iexact CrO2
    isplitl [ArO2]; · iexact ArO2
    isplitl [AsL2]; · iexact AsL2
    isplitl [CrL2]; · iexact CrL2
    iexact ArL2
  iintro ⟨D, ZsO2, ZrO2, ZsL2, ZrL2, OX0, LX0, Mo2, Ml2⟩
  try dsimp only
  rw [wp_bind]
  iapply (part9 m K c _ _)
  isplitl [D OX0 LX0 Mo2 Ml2 Bo3 Bl3 TsO3 TrO3 TsL3 TrL3]
  · isplitr; · iexact HR
    isplitr; · iexact Hl
    isplitl [D]; · iexact D
    isplitl [OX0]; · iexact OX0
    isplitl [LX0]; · iexact LX0
    isplitl [Mo2]; · iexact Mo2
    isplitl [Ml2]; · iexact Ml2
    isplitl [Bo3]; · iexact Bo3
    isplitl [Bl3]; · iexact Bl3
    isplitl [TsO3]; · iexact TsO3
    isplitl [TrO3]; · iexact TrO3
    isplitl [TsL3]; · iexact TsL3
    iexact TrL3
  iintro ⟨D, So2, Sl2, CsO3, CsL3⟩
  try dsimp only
  rw [wp_bind]
  iapply (part10 m K c _ _)
  isplitl [D CsO3 AsO3 CrO3 ArO3 CsL3 AsL3 CrL3 ArL3]
  · isplitr; · iexact HR
    isplitr; · iexact Hl
    isplitl [D]; · iexact D
    isplitl [CsO3]; · iexact CsO3
    isplitl [AsO3]; · iexact AsO3
    isplitl [CrO3]; · iexact CrO3
    isplitl [ArO3]; · iexact ArO3
    isplitl [CsL3]; · iexact CsL3
    isplitl [AsL3]; · iexact AsL3
    isplitl [CrL3]; · iexact CrL3
    iexact ArL3
  iintro ⟨D, ZsO3, ZrO3, ZsL3, ZrL3, OX0, LX0, So3, Sl3⟩
  try dsimp only
  iapply (step_input2 c (woIn m c) zeros2) $$ [X2]
  · iexact X2
  iintro X2
  iapply (step_input5 c g zeros3) $$ [X5]
  · iexact X5
  iintro X5
  dsimp only [Prog.bind]
  rw [show k0_pay39 (lAt m 3 c) (oAt m 4 c) (packL (lAt m 3 (peer 3 c))) (woIn m c) = outAt m c from rfl]
  rw [wp_ret]; imodintro
  iapply Hk
  unfold left quiet spent buffers slots inputs
  isplitl [D Zb ZsO0 ZrO0 ZsL0 ZrL0 ZsO1 ZrO1 ZsL1 ZrL1 ZsO2 ZrO2 ZsL2 ZrL2 ZsO3 ZrO3 ZsL3 ZrL3 OX0 LX0 So0 Sl0 So1 Sl1 So2 Sl2 So3 Sl3 X0 X1 X2 X3 X4]
  · isplitl [D]; · iexact D
    isplitl [Zb ZsO0 ZrO0 ZsL0 ZrL0 ZsO1 ZrO1 ZsL1 ZrL1 ZsO2 ZrO2 ZsL2 ZrL2 ZsO3 ZrO3 ZsL3 ZrL3]
    · isplitl [Zb]; · iexact Zb
      isplitl [ZsO0 ZrO0 ZsL0 ZrL0]
      · isplitl [ZsO0]; · iexact ZsO0
        isplitl [ZrO0]; · iexact ZrO0
        isplitl [ZsL0]; · iexact ZsL0
        iexact ZrL0
      isplitl [ZsO1 ZrO1 ZsL1 ZrL1]
      · isplitl [ZsO1]; · iexact ZsO1
        isplitl [ZrO1]; · iexact ZrO1
        isplitl [ZsL1]; · iexact ZsL1
        iexact ZrL1
      isplitl [ZsO2 ZrO2 ZsL2 ZrL2]
      · isplitl [ZsO2]; · iexact ZsO2
        isplitl [ZrO2]; · iexact ZrO2
        isplitl [ZsL2]; · iexact ZsL2
        iexact ZrL2
      isplitl [ZsO3]; · iexact ZsO3
      isplitl [ZrO3]; · iexact ZrO3
      isplitl [ZsL3]; · iexact ZsL3
      iexact ZrL3
    isplitl [OX0 LX0 So0 Sl0 So1 Sl1 So2 Sl2 So3 Sl3]
    · isplitl [OX0]; · iexact OX0
      isplitl [LX0]; · iexact LX0
      isplitl [So0 Sl0]
      · isplitl [So0]; · iexact So0
        iexact Sl0
      isplitl [So1 Sl1]
      · isplitl [So1]; · iexact So1
        iexact Sl1
      isplitl [So2 Sl2]
      · isplitl [So2]; · iexact So2
        iexact Sl2
      isplitl [So3]; · iexact So3
      iexact Sl3
    isplitl [X0]; · iexact X0
    isplitl [X1]; · iexact X1
    isplitl [X2]; · iexact X2
    isplitl [X3]; · iexact X3
    iexact X4
  iexact X5

/-- One device's run of the kernel. -/
theorem body_run (g : FVec F S1x512x1024 .f32) (Q : PUnit → sProp 𝕄) :
    iprop((before m K c ∗ held c cc0_stg5_0 g) ∗ ((left m c ∗ held c cc0_stg5_0 (outAt m c)) -∗ Q ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7) Q := by
  simp only [cc0_body_eq_skeleton]; unfold cc0_body_skel
  simp only [Prog.lift, Prog.pure_eq_ret]
  iintro ⟨Hb, Hk⟩
  rw [wp_bind]
  iapply (part11 m K c g _)
  isplitl [Hb]; · iexact Hb
  iintro ⟨Hl, X5⟩
  iapply (step_result c (outAt m c) zeros3 g) $$ [X5]
  · iexact X5
  iintro X5
  dsimp only [Prog.bind]
  rw [wp_ret]; imodintro
  iapply Hk
  isplitl [Hl]; · iexact Hl
  iexact X5

end Body

end Cert.KernelIdeal.Hyper

end
-- ==== Proof.KernelIdeal.Data.lean ====
/-
# The launch's proof data

What the staged arrays hold before and after the kernel's one run, what is held between, and that the kernel's
body meets them.

-/
module

public import proofs.«01_k».proof.Proof.KernelIdeal.BodyRun

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Data

variable (m : (ℓ : Loc nD τ sig) → Buf (Elt F) ℓ) (ρ : Dev nD → PrngReg)

/-- What a device starts from: the protocol's records, its own share of it, its promises and the order of waits. -/
def start (c : Dev nD) : sProp 𝕄 := iprop((∃ K, records m K ∗ linear c) ∗ promises c ∗ levAts L lv)
/-- What is held before the kernel's run, -/
def Φ₀ (c : Dev nD) : sProp 𝕄 := iprop(start m c ∗ buffers c)
/-- and after it. -/
def Φ₁ (c : Dev nD) : sProp 𝕄 := iprop(quiet c ∗ buffers c)

/-- The proof data of the one staged region. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => woIn m c
    | ⟨3, _⟩ => kIn m c
    | ⟨4, _⟩ => vIn m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s staged array `b` holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ
    ∗ stg c cc0_stg0_0 (xIn m c)
    ∗ stg c cc0_stg1_0 (wqIn m c)
    ∗ stg c cc0_stg2_0 (woIn m c)
    ∗ stg c cc0_stg3_0 (kIn m c)
    ∗ stg c cc0_stg4_0 (vIn m c)
    ∗ stg c cc0_stg5_0 (outAt m c))

set_option maxRecDepth 8000 in
/-- The kernel's run meets what the region asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7) (fun _ => bodyPost m ρ c)
  unfold bodyPre Φ₀ start
  iintro ⟨⟨⟨⟨%K, #HR, Hlin⟩, Hpr, #Hl⟩, Hbuf⟩, Ho, ⟨%d0, %g0, %hg0, X0⟩, ⟨%d1, %g1, %hg1, X1⟩, ⟨%d2, %g2, %hg2, X2⟩, ⟨%d3, %g3, %hg3, X3⟩, ⟨%d4, %g4, %hg4, X4⟩, ⟨%d5, %g5, %hg5, X5⟩⟩
  have h0 : g0 = xIn m c := by rw [hg0]; unfold Dat.before; rw [if_pos (fetch0_0 t0_0)]; rfl
  subst h0
  have h1 : g1 = wqIn m c := by rw [hg1]; unfold Dat.before; rw [if_pos (fetch0_1 t0_0)]; rfl
  subst h1
  have h2 : g2 = woIn m c := by rw [hg2]; unfold Dat.before; rw [if_pos (fetch0_2 t0_0)]; rfl
  subst h2
  have h3 : g3 = kIn m c := by rw [hg3]; unfold Dat.before; rw [if_pos (fetch0_3 t0_0)]; rfl
  subst h3
  have h4 : g4 = vIn m c := by rw [hg4]; unfold Dat.before; rw [if_pos (fetch0_4 t0_0)]; rfl
  subst h4
  unfold Dat.owesAt Pipeline.owesWithin
  icases Ho with ⟨%W, %hW, HO⟩
  rw [show (dats m ρ 0 c).owed t0_0.castSucc = O₀ c from rfl]
  iapply (body_run m K c g5 _)
  isplitl [Hlin Hpr Hbuf HO X0 X1 X2 X3 X4 X5]
  · isplitr [X5]
    · unfold before owing inputs
      isplitr; · iexact HR
      isplitr; · iexact Hl
      isplitl [HO]; · iexists W; iexact HO
      isplitl [Hlin]; · iexact Hlin
      isplitl [Hpr]; · iexact Hpr
      isplitl [Hbuf]; · iexact Hbuf
      isplitl [X0]; · iexact X0
      isplitl [X1]; · iexact X1
      isplitl [X2]; · iexact X2
      isplitl [X3]; · iexact X3
      iexact X4
    iexact X5
  unfold left owing inputs
  iintro ⟨⟨⟨%W', HO⟩, Hq, Hbuf, X0, X1, X2, X3, X4⟩, X5⟩
  unfold bodyPost Φ₁ Dat.owesAt Pipeline.owesWithin
  rw [show (dats m ρ 0 c).owed t0_0.succ = 0 from rfl]
  isplitl [Hq Hbuf]
  · isplitl [Hq]; · iexact Hq
    iexact Hbuf
  isplitl [HO]
  · iexists W'
    isplitr; · ipureintro; exact fun _ _ => Or.inl trivial
    iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  isplitl [X3]
  · iexists _; isplitr; · (ipureintro; rfl)
    iexact X3
  isplitl [X4]
  · iexists _; isplitr; · (ipureintro; rfl)
    iexact X4
  iexists _; isplitr; · (ipureintro; rfl)
  iexact X5

end Data

end Cert.KernelIdeal.Hyper

end
-- ==== Proof.KernelIdeal.Launch.lean ====
/-
# The launch

From any memory with every semaphore at zero, the sixteen devices run the kernel to the end: the protocol's records
are made from the semaphores, each device is dealt its tokens and promises, and the run follows.

-/
module

public import proofs.«01_k».proof.Proof.KernelIdeal.Data
public import Idealize.ShloMosaic.Lib.Pipeline.CollectiveSegs

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Launch

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m ρ 0 c).share w = fullShare := by unfold Dat.share; split <;> rfl

theorem ksem_injective : Function.Injective ksem := by decide
theorem kcell_injective : Function.Injective kcell := by
  rintro ⟨c, k⟩ ⟨c', k'⟩ h
  have h1 : c = c' := by have := congrArg (fun g : GSem nD τ sig => g.1.1) h; exact this
  subst h1
  have h2 : ksem k = ksem k' := congrArg Prod.snd h
  rw [ksem_injective h2]
/-- The protocol's cells: every device's seventeen. -/
def hyperCells : Finset (GSem nD τ sig) := Finset.univ.map ⟨kcell, kcell_injective⟩

/-- The semaphore and the duty of round `r`'s five tokens: the barrier's, the two sends' and the two receipts'. -/
def tokSem (x : Fin 4 × Fin 5) : SemLoc sig × Fin 4 := match x.2 with
  | 0 => (.reg barS, x.1) | 1 => (.dma (dsem (sO x.1)), 0) | 2 => (.dma (dsem (rO x.1)), 0)
  | 3 => (.dma (dsem (sL x.1)), 0) | 4 => (.dma (dsem (rL x.1)), 0)
theorem tokSem_injective : Function.Injective tokSem := by decide
/-- The tokens of a device's own cells. -/
abbrev tokOf (x : Dev nD × (Fin 4 × Fin 5)) : GSem nD τ sig × ℕ × Fin 4 := (((x.1 : Thread nD τ), (tokSem x.2).1), 0, (tokSem x.2).2)
theorem tokOf_injective : Function.Injective tokOf := by
  rintro ⟨c, x⟩ ⟨c', x'⟩ h
  have h1 : c = c' := congrArg (fun y : GSem nD τ sig × ℕ × Fin 4 => y.1.1.1) h
  subst h1
  have h2 : tokSem x = tokSem x' := congrArg (fun y : GSem nD τ sig × ℕ × Fin 4 => (y.1.2, y.2.2)) h
  rw [tokSem_injective h2]
def hyperToks : Finset (GSem nD τ sig × ℕ × Fin 4) := Finset.univ.map ⟨tokOf, tokOf_injective⟩

/-- The ghost state of the launch. -/
def u₀ : UU := (initOf (Pipeline.cells cfgs cellOf_inj) (Pipeline.launchToks cfgs cellOf_inj), initOf hyperCells hyperToks)

/-- Round `r`'s tokens of device `c`'s own cells, -/
def ownToks (c : Dev nD) (r : Fin 4) : sProp 𝕄 :=
  iprop(dutyTok ER (barCell c) 0 r ∗ dutyTok ER (dcell c (sO r)) 0 0 ∗ dutyTok ER (dcell c (rO r)) 0 0 ∗ dutyTok ER (dcell c (sL r)) 0 0 ∗ dutyTok ER (dcell c (rL r)) 0 0)
/-- and those device `c` pays with. -/
def payToks (c : Dev nD) (r : Fin 4) : sProp 𝕄 :=
  iprop(dutyTok ER (barCell (peer r c)) 0 r ∗ dutyTok ER (dcell c (sO r)) 0 0 ∗ dutyTok ER (dcell (peer r c) (rO r)) 0 0 ∗ dutyTok ER (dcell c (sL r)) 0 0 ∗ dutyTok ER (dcell (peer r c) (rL r)) 0 0)

/-- What the launch deals device `c`. -/
def G (c : Dev nD) : sProp 𝕄 :=
  iprop((bigSep Finset.univ fun k => roundState ER (sched m) (kcell (c, k)) 0)
    ∗ (bigSep Finset.univ fun k => iprop(atPos ER (kcell (c, k)) 0 ∅ 0 ∗ reached ER (kcell (c, k)) 0)) ∗ bigSep Finset.univ fun r => ownToks c r)
/-- What the global step makes of it. -/
def G' (c : Dev nD) : sProp 𝕄 := iprop(∃ K, records m K ∗ linear c)

omit [FloatOps F] [Named F] in
theorem bigSep_cells (Φ : Option (Fin 16) → sProp 𝕄) : bigSep Finset.univ Φ = iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9) ∗ Φ (some 10) ∗ Φ (some 11) ∗ Φ (some 12) ∗ Φ (some 13) ∗ Φ (some 14) ∗ Φ (some 15)) :=
  bigSep_univ_eq_bigSepL [none, some 0, some 1, some 2, some 3, some 4, some 5, some 6, some 7, some 8, some 9, some 10, some 11, some 12, some 13, some 14, some 15] (by decide) (by decide) Φ
omit [FloatOps F] [Named F] in
theorem bigSep_rounds (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] [Named F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The launch's ghost state yields every device's deal. -/
theorem fund_hyper : BI.own (ER (initOf hyperCells hyperToks)) ⊢ (|==> bigSep Finset.univ (G m) : sProp 𝕄) := by
  have hX (Φ : GSem nD τ sig → sProp 𝕄) : bigSep hyperCells Φ = bigSep Finset.univ fun c : Dev nD => bigSep Finset.univ fun k => Φ (kcell (c, k)) := by
    unfold hyperCells; rw [bigSep_map, bigSep_univ_prod]; rfl
  have hT : bigSep hyperToks (fun x => (dutyTok ER x.1 x.2.1 x.2.2 : sProp 𝕄)) = bigSep Finset.univ fun c : Dev nD => bigSep Finset.univ fun r => ownToks c r := by
    unfold hyperToks; rw [bigSep_map, bigSep_univ_prod]
    exact bigSep_congr fun c _ => by
      rw [bigSep_univ_prod]
      exact bigSep_congr fun r _ => by unfold ownToks; rw [bigSep_five]; rfl
  iintro HX
  imod (Rounds.fund ER (sched m) hyperCells hyperToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores' values: the sixteen transfer semaphores are the kernel's own, -/
theorem ownSems0_eq (c : Dev nD) : (Pipeline.ownSems0 (Ix := Unit) (Name := ℕ) (U := UU) (Lvl := ℕ) (Val := Elt F) (τ := τ) osem c : sProp 𝕄)
    = iprop(semVal (dcell c 0) 0 ∗ semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ semVal (dcell c 12) 0 ∗ semVal (dcell c 13) 0 ∗ semVal (dcell c 14) 0 ∗ semVal (dcell c 15) 0) := by
  rw [Pipeline.ownSems0_eq_of_list c osem [0, 1, 2, 3, 4, 5, 6, 7, 8, 9, 10, 11, 12, 13, 14, 15] (by decide) (by decide)]; rfl
/-- the barrier the launch's one further semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_cells]
  iintro ⟨Ho, Hb⟩
  isplitl [Hb]; · iexact Hb
  iexact Ho

/-- Each device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ bigSep Finset.univ fun r => ownToks c r) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] [Named F] in
/-- In round `r`, each device hands its partner the tokens of the signals the partner will make. -/
theorem round_around (r : Fin 4) : (bigSep Finset.univ fun c : Dev nD => (ownToks c r : sProp 𝕄)) = bigSep Finset.univ fun c : Dev nD => payToks c r := by
  unfold ownToks payToks
  rw [bigSep_sep', bigSep_sep', bigSep_sep', bigSep_sep', bigSep_sep', bigSep_sep', bigSep_sep', bigSep_sep',
    bigSep_univ_equiv (flip r) (fun c : Dev nD => (dutyTok ER (barCell c) 0 r : sProp 𝕄)),
    bigSep_univ_equiv (flip r) (fun c : Dev nD => (dutyTok ER (dcell c (rO r)) 0 0 : sProp 𝕄)),
    bigSep_univ_equiv (flip r) (fun c : Dev nD => (dutyTok ER (dcell c (rL r)) 0 0 : sProp 𝕄))]
  rfl
omit [FloatOps F] [Named F] in
/-- So all rounds' tokens go around at once. -/
theorem toks_around : (bigSep Finset.univ fun c : Dev nD => bigSep Finset.univ fun r => (ownToks c r : sProp 𝕄))
    = bigSep Finset.univ fun c : Dev nD => bigSep Finset.univ fun r => payToks c r := by
  simp only [bigSep_rounds]
  rw [bigSep_sep', bigSep_sep', bigSep_sep', bigSep_sep', bigSep_sep', bigSep_sep',
    round_around, round_around, round_around, round_around]

/-- A device's places and tokens, listed. -/
theorem linear_intro (c : Dev nD) :
    iprop((bigSep Finset.univ fun k => (atPos ER (kcell (c, k)) 0 ∅ 0 : sProp 𝕄)) ∗ bigSep Finset.univ fun r => payToks c r) ⊢ linear c := by
  rw [bigSep_cells, bigSep_rounds]
  unfold payToks linear barTokens places tokens
  iintro ⟨⟨Ab, AsO0, AsO1, AsO2, AsO3, ArO0, ArO1, ArO2, ArO3, AsL0, AsL1, AsL2, AsL3, ArL0, ArL1, ArL2, ArL3⟩, ⟨Tb0, TsO0, TrO0, TsL0, TrL0⟩, ⟨Tb1, TsO1, TrO1, TsL1, TrL1⟩, ⟨Tb2, TsO2, TrO2, TsL2, TrL2⟩, ⟨Tb3, TsO3, TrO3, TsL3, TrL3⟩⟩
  isplitl [Ab]; · iexact Ab
  isplitl [Tb0 Tb1 Tb2 Tb3]
  · isplitl [Tb0]; · iexact Tb0
    isplitl [Tb1]; · iexact Tb1
    isplitl [Tb2]; · iexact Tb2
    iexact Tb3
  isplitl [AsO0 ArO0 AsL0 ArL0 TsO0 TrO0 TsL0 TrL0]
  · isplitl [AsO0 ArO0 AsL0 ArL0]
    · isplitl [AsO0]; · iexact AsO0
      isplitl [ArO0]; · iexact ArO0
      isplitl [AsL0]; · iexact AsL0
      iexact ArL0
    isplitl [TsO0]; · iexact TsO0
    isplitl [TrO0]; · iexact TrO0
    isplitl [TsL0]; · iexact TsL0
    iexact TrL0
  isplitl [AsO1 ArO1 AsL1 ArL1 TsO1 TrO1 TsL1 TrL1]
  · isplitl [AsO1 ArO1 AsL1 ArL1]
    · isplitl [AsO1]; · iexact AsO1
      isplitl [ArO1]; · iexact ArO1
      isplitl [AsL1]; · iexact AsL1
      iexact ArL1
    isplitl [TsO1]; · iexact TsO1
    isplitl [TrO1]; · iexact TrO1
    isplitl [TsL1]; · iexact TsL1
    iexact TrL1
  isplitl [AsO2 ArO2 AsL2 ArL2 TsO2 TrO2 TsL2 TrL2]
  · isplitl [AsO2 ArO2 AsL2 ArL2]
    · isplitl [AsO2]; · iexact AsO2
      isplitl [ArO2]; · iexact ArO2
      isplitl [AsL2]; · iexact AsL2
      iexact ArL2
    isplitl [TsO2]; · iexact TsO2
    isplitl [TrO2]; · iexact TrO2
    isplitl [TsL2]; · iexact TsL2
    iexact TrL2
  isplitl [AsO3 ArO3 AsL3 ArL3]
  · isplitl [AsO3]; · iexact AsO3
    isplitl [ArO3]; · iexact ArO3
    isplitl [AsL3]; · iexact AsL3
    iexact ArL3
  isplitl [TsO3]; · iexact TsO3
  isplitl [TrO3]; · iexact TrO3
  isplitl [TsL3]; · iexact TsL3
  iexact TrL3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ bigSep Finset.univ fun r => ownToks c r) : sProp 𝕄)
      ⊢ bigSep Finset.univ (G' m) := by
  rw [bigSep_sep', bigSep_sep', ← bigSep_univ_prod (fun ck : Dev nD × Option (Fin 16) => iprop(∃ κ : ℕ, cellInv ER (sched m) κ (kcell ck))),
    bigSep_congr (s := Finset.univ) (fun (c : Dev nD) _ => bigSep_sep' Finset.univ (fun k : Option (Fin 16) => (atPos ER (kcell (c, k)) 0 ∅ 0 : sProp 𝕄)) (fun k => reached ER (kcell (c, k)) 0)),
    bigSep_sep', ← bigSep_univ_prod (fun ck : Dev nD × Option (Fin 16) => (reached ER (kcell ck) 0 : sProp 𝕄)), toks_around]
  iintro ⟨HI, ⟨Hat, #HR⟩, Htok⟩
  ihave HK := (BI.bigSep_exists_pi Finset.univ (fun (ck : Dev nD × Option (Fin 16)) (κ : ℕ) => (cellInv ER (sched m) κ (kcell ck) : sProp 𝕄))) $$ HI
  icases HK with ⟨%K, #HI⟩
  iapply (bigSep_with_persistent (R := records m K) (Φ := fun c => linear c) fun c _ => show iprop(records m K ∗ linear c) ⊢ G' m c from by
    unfold G'
    iintro H
    iexists K
    iexact H)
  isplitr
  · unfold records; isplitl; · iexact HI
    iexact HR
  · iapply ((Entails.of_eq (bigSep_sep' Finset.univ (fun c : Dev nD => bigSep Finset.univ fun k => (atPos ER (kcell (c, k)) 0 ∅ 0 : sProp 𝕄)) (fun c => bigSep Finset.univ fun r => payToks c r)).symm).trans
      (bigSep_mono fun c _ => linear_intro c))
    isplitl [Hat]; · iexact Hat
    iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] [Named F] in
/-- A payment to partner `r`'s cell is a payment to `c`'s when the payer is `c`'s partner. -/
theorem pay_apply (d c : Dev nD) (r : ℕ) (sm sm' : SemLoc sig) (n : ℕ) :
    (tallyAt (((peer r d : Dev nD) : Thread nD τ), sm) () n : CellTallies nD τ sig Unit) ((c : Thread nD τ), sm') ()
      = if sm' = sm then (if d = peer r c then n else 0) else 0 := by
  rw [tallyAt_apply]
  by_cases h : sm' = sm
  · subst h
    rw [if_pos (show sm' = sm' from rfl)]
    by_cases h' : d = peer r c
    · subst h'; rw [peer_peer, if_pos ⟨rfl, rfl⟩, if_pos rfl]
    · rw [if_neg h', if_neg]
      rintro ⟨e, -⟩
      have e' : c = peer r d := congrArg (fun g : GSem nD τ sig => g.1.1) e
      exact h' (by rw [e', peer_peer])
  · rw [if_neg h, if_neg]
    rintro ⟨e, -⟩
    exact h (congrArg Prod.snd e)

/-- What the launch promises at semaphore `sm`, from what each device owes there. -/
theorem launch_at (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- What device `d` owes at `c`'s semaphore `sm`, payment by payment. -/
theorem owed_apply (d c : Dev nD) (sm : SemLoc sig) : O₀ d ((c : Thread nD τ), sm) ()
    = 0 + (if sm = .dma (dsem (rL 3)) then (if d = peer 3 c then NL else 0) else 0) + (if sm = .dma (dsem (rO 3)) then (if d = peer 3 c then NO else 0) else 0) + (if sm = .dma (dsem (rL 2)) then (if d = peer 2 c then NL else 0) else 0) + (if sm = .dma (dsem (rO 2)) then (if d = peer 2 c then NO else 0) else 0) + (if sm = .dma (dsem (rL 1)) then (if d = peer 1 c then NL else 0) else 0) + (if sm = .dma (dsem (rO 1)) then (if d = peer 1 c then NO else 0) else 0) + (if sm = .dma (dsem (rL 0)) then (if d = peer 0 c then NL else 0) else 0) + (if sm = .dma (dsem (rO 0)) then (if d = peer 0 c then NO else 0) else 0) + (if sm = .reg barS then (if d = peer 3 c then 1 else 0) else 0) + (if sm = .reg barS then (if d = peer 2 c then 1 else 0) else 0) + (if sm = .reg barS then (if d = peer 1 c then 1 else 0) else 0) + (if sm = .reg barS then (if d = peer 0 c then 1 else 0) else 0) := by
  unfold O₀ D0 D1 D2 D3
  simp only [Pi.add_apply, Finsupp.add_apply]
  rw [pay_apply, pay_apply, pay_apply, pay_apply, pay_apply, pay_apply, pay_apply, pay_apply, pay_apply, pay_apply, pay_apply, pay_apply]
  rfl

theorem sum_one (c : Dev nD) (r n : ℕ) : (∑ d : Dev nD, if d = peer r c then n else 0) = n := by
  rw [Finset.sum_ite_eq' Finset.univ (peer r c) fun _ => n, if_pos (Finset.mem_univ _)]

theorem launch_bar (c : Dev nD) : ∑ d : Dev nD, O₀ d (barCell c) () = 4 := by
  simp only [owed_apply, Finset.sum_add_distrib, sum_one, reduceCtorEq, if_false, Finset.sum_const_zero, if_true, Nat.zero_add]
theorem launch_rO (c : Dev nD) (r : Fin 4) : ∑ d : Dev nD, O₀ d (dcell c (rO r)) () = NO := by
  have hd : ∀ k k' : Fin 16, (SemLoc.dma (dsem k) : SemLoc sig) = .dma (dsem k') ↔ k = k' := by decide
  simp only [owed_apply, hd, reduceCtorEq, if_false]
  fin_cases r <;>
    simp [rO, rL, Finset.sum_add_distrib, sum_one]
theorem launch_rL (c : Dev nD) (r : Fin 4) : ∑ d : Dev nD, O₀ d (dcell c (rL r)) () = NL := by
  have hd : ∀ k k' : Fin 16, (SemLoc.dma (dsem k) : SemLoc sig) = .dma (dsem k') ↔ k = k' := by decide
  simp only [owed_apply, hd, reduceCtorEq, if_false]
  fin_cases r <;>
    simp [rO, rL, Finset.sum_add_distrib, sum_one]

/-- The launch's promises to device `c`. -/
theorem creds (c : Dev nD) : (Pipeline.launchCred O₀ c : sProp 𝕄) ⊢ promises c := by
  unfold Pipeline.launchCred
  refine (BI.bigSep_subset (Finset.subset_univ ([SemLoc.reg barS, .dma (dsem (rO 0)), .dma (dsem (rL 0)), .dma (dsem (rO 1)), .dma (dsem (rL 1)), .dma (dsem (rO 2)), .dma (dsem (rL 2)), .dma (dsem (rO 3)), .dma (dsem (rL 3))] : List (SemLoc sig)).toFinset)).trans ?_
  rw [bigSep_eq_bigSepL_of_eq [SemLoc.reg barS, .dma (dsem (rO 0)), .dma (dsem (rL 0)), .dma (dsem (rO 1)), .dma (dsem (rL 1)), .dma (dsem (rO 2)), .dma (dsem (rL 2)), .dma (dsem (rO 3)), .dma (dsem (rL 3))] rfl (by decide)]
  simp only [bigSepL]
  rw [launch_at c _ 4 (launch_bar c), launch_at c _ NO (launch_rO c 0), launch_at c _ NL (launch_rL c 0), launch_at c _ NO (launch_rO c 1), launch_at c _ NL (launch_rL c 1), launch_at c _ NO (launch_rO c 2), launch_at c _ NL (launch_rL c 2), launch_at c _ NO (launch_rO c 3), launch_at c _ NL (launch_rL c 3)]
  unfold promises receipts
  show (iprop(cred (tallyAt (barCell c) () 4) ∗ cred (tallyAt (dcell c (rO 0)) () NO) ∗ cred (tallyAt (dcell c (rL 0)) () NL) ∗ cred (tallyAt (dcell c (rO 1)) () NO) ∗ cred (tallyAt (dcell c (rL 1)) () NL) ∗ cred (tallyAt (dcell c (rO 2)) () NO) ∗ cred (tallyAt (dcell c (rL 2)) () NL) ∗ cred (tallyAt (dcell c (rO 3)) () NO) ∗ cred (tallyAt (dcell c (rL 3)) () NL)) : sProp 𝕄) ⊢ _
  iintro ⟨Cb, CrO0, CrL0, CrO1, CrL1, CrO2, CrL2, CrO3, CrL3⟩
  isplitl [Cb]; · iexact Cb
  isplitl [CrO0 CrL0]
  · isplitl [CrO0]; · iexact CrO0
    iexact CrL0
  isplitl [CrO1 CrL1]
  · isplitl [CrO1]; · iexact CrO1
    iexact CrL1
  isplitl [CrO2 CrL2]
  · isplitl [CrO2]; · iexact CrO2
    iexact CrL2
  isplitl [CrO3]; · iexact CrO3
  iexact CrL3

/-! ### The region's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem slotOPts_eq (c : Dev nD) (r : Fin 4) (f : Buf (Elt F) ((c : Thread nD τ).loc cc0_scratch2)) :
    (slotOPts c r f : sProp 𝕄) = (((c : Thread nD τ).loc cc0_scratch2) ↦[(rectO r).set]{fullShare} f) := by
  unfold slotOPts; rw [slotO_set]
/-- The attention landing buffer is its four slots. -/
theorem slotsO_split (c : Dev nD) :
    (iprop(∃ f : Buf (Elt F) ((c : Thread nD τ).loc cc0_scratch2), ((c : Thread nD τ).loc cc0_scratch2) ↦{fullShare} f) : sProp 𝕄)
      ⊢ iprop((∃ f, slotOPts c 0 f) ∗ (∃ f, slotOPts c 1 f) ∗ (∃ f, slotOPts c 2 f) ∗ (∃ f, slotOPts c 3 f)) := by
  simp only [slotOPts_eq]
  iintro ⟨%f, H⟩
  ihave H' := (Entails.of_eq ((Ring.pointsTo_blocks (ℓ := (c : Thread nD τ).loc cc0_scratch2) (fun r : Fin 4 => (rectO r).set) rectO_disjoint rectO_cover f).trans (bigSep_rounds _))) $$ H
  icases H' with ⟨H0, H1, H2, H3⟩
  isplitl [H0]; · iexists f; iexact H0
  isplitl [H1]; · iexists f; iexact H1
  isplitl [H2]; · iexists f; iexact H2
  iexists f; iexact H3
theorem slotsO_join (c : Dev nD) :
    iprop((∃ f, slotOPts c 0 f) ∗ (∃ f, slotOPts c 1 f) ∗ (∃ f, slotOPts c 2 f) ∗ (∃ f, slotOPts c 3 f))
      ⊢ (iprop(∃ f : Buf (Elt F) ((c : Thread nD τ).loc cc0_scratch2), ((c : Thread nD τ).loc cc0_scratch2) ↦{fullShare} f) : sProp 𝕄) := by
  simp only [slotOPts_eq]
  iintro ⟨⟨%f, H0⟩, H1, H2, H3⟩
  iapply ((Entails.of_eq (bigSep_rounds (F := F) _).symm).trans (Ring.pointsTo_blocks_join_exists (ℓ := (c : Thread nD τ).loc cc0_scratch2) (fun r : Fin 4 => (rectO r).set) rectO_disjoint rectO_cover f))
  isplitl [H0]; · iexists f; iexact H0
  isplitl [H1]; · iexact H1
  isplitl [H2]; · iexact H2
  iexact H3

theorem slotLPts_eq (c : Dev nD) (r : Fin 4) (f : Buf (Elt F) ((c : Thread nD τ).loc cc0_scratch3)) :
    (slotLPts c r f : sProp 𝕄) = (((c : Thread nD τ).loc cc0_scratch3) ↦[(rectL r).set]{fullShare} f) := by
  unfold slotLPts; rw [slotL_set]
/-- The denominator landing buffer is its four slots. -/
theorem slotsL_split (c : Dev nD) :
    (iprop(∃ f : Buf (Elt F) ((c : Thread nD τ).loc cc0_scratch3), ((c : Thread nD τ).loc cc0_scratch3) ↦{fullShare} f) : sProp 𝕄)
      ⊢ iprop((∃ f, slotLPts c 0 f) ∗ (∃ f, slotLPts c 1 f) ∗ (∃ f, slotLPts c 2 f) ∗ (∃ f, slotLPts c 3 f)) := by
  simp only [slotLPts_eq]
  iintro ⟨%f, H⟩
  ihave H' := (Entails.of_eq ((Ring.pointsTo_blocks (ℓ := (c : Thread nD τ).loc cc0_scratch3) (fun r : Fin 4 => (rectL r).set) rectL_disjoint rectL_cover f).trans (bigSep_rounds _))) $$ H
  icases H' with ⟨H0, H1, H2, H3⟩
  isplitl [H0]; · iexists f; iexact H0
  isplitl [H1]; · iexists f; iexact H1
  isplitl [H2]; · iexists f; iexact H2
  iexists f; iexact H3
theorem slotsL_join (c : Dev nD) :
    iprop((∃ f, slotLPts c 0 f) ∗ (∃ f, slotLPts c 1 f) ∗ (∃ f, slotLPts c 2 f) ∗ (∃ f, slotLPts c 3 f))
      ⊢ (iprop(∃ f : Buf (Elt F) ((c : Thread nD τ).loc cc0_scratch3), ((c : Thread nD τ).loc cc0_scratch3) ↦{fullShare} f) : sProp 𝕄) := by
  simp only [slotLPts_eq]
  iintro ⟨⟨%f, H0⟩, H1, H2, H3⟩
  iapply ((Entails.of_eq (bigSep_rounds (F := F) _).symm).trans (Ring.pointsTo_blocks_join_exists (ℓ := (c : Thread nD τ).loc cc0_scratch3) (fun r : Fin 4 => (rectL r).set) rectL_disjoint rectL_cover f))
  isplitl [H0]; · iexists f; iexact H0
  isplitl [H1]; · iexact H1
  isplitl [H2]; · iexact H2
  iexact H3

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1, H2, H3⟩
  ihave H2' := (slotsO_split (F := F) c) $$ H2
  ihave H3' := (slotsL_split (F := F) c) $$ H3
  icases H2' with ⟨So0, So1, So2, So3⟩
  icases H3' with ⟨Sl0, Sl1, Sl2, Sl3⟩
  isplitl [Hs]; · iexact Hs
  unfold buffers slots outOPts outLPts
  simp only [Memref.view_whole, View.set_whole]
  isplitl [H0]; · iexact H0
  isplitl [H1]; · iexact H1
  isplitl [So0 Sl0]
  · isplitl [So0]; · iexact So0
    iexact Sl0
  isplitl [So1 Sl1]
  · isplitl [So1]; · iexact So1
    iexact Sl1
  isplitl [So2 Sl2]
  · isplitl [So2]; · iexact So2
    iexact Sl2
  isplitl [So3]; · iexact So3
  iexact Sl3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ quiet spent buffers slots outOPts outLPts
  simp only [Memref.view_whole, View.set_whole]
  iintro ⟨⟨Zb, ⟨ZsO0, ZrO0, ZsL0, ZrL0⟩, ⟨ZsO1, ZrO1, ZsL1, ZrL1⟩, ⟨ZsO2, ZrO2, ZsL2, ZrL2⟩, ⟨ZsO3, ZrO3, ZsL3, ZrL3⟩⟩, H0, H1, ⟨So0, Sl0⟩, ⟨So1, Sl1⟩, ⟨So2, Sl2⟩, ⟨So3, Sl3⟩⟩
  isplitl [Zb]; · iexact Zb
  isplitl [ZsO0 ZrO0 ZsO1 ZrO1 ZsO2 ZrO2 ZsO3 ZrO3 ZsL0 ZrL0 ZsL1 ZrL1 ZsL2 ZrL2 ZsL3 ZrL3]
  · isplitl [ZsO0]; · iexact ZsO0
    isplitl [ZsO1]; · iexact ZsO1
    isplitl [ZsO2]; · iexact ZsO2
    isplitl [ZsO3]; · iexact ZsO3
    isplitl [ZrO0]; · iexact ZrO0
    isplitl [ZrO1]; · iexact ZrO1
    isplitl [ZrO2]; · iexact ZrO2
    isplitl [ZrO3]; · iexact ZrO3
    isplitl [ZsL0]; · iexact ZsL0
    isplitl [ZsL1]; · iexact ZsL1
    isplitl [ZsL2]; · iexact ZsL2
    isplitl [ZsL3]; · iexact ZsL3
    isplitl [ZrL0]; · iexact ZrL0
    isplitl [ZrL1]; · iexact ZrL1
    isplitl [ZrL2]; · iexact ZrL2
    iexact ZrL3
  isplitl [H0]; · iexact H0
  isplitl [H1]; · iexact H1
  isplitl [So0 So1 So2 So3]
  · iapply (slotsO_join (F := F) c)
    isplitl [So0]; · iexact So0
    isplitl [So1]; · iexact So1
    isplitl [So2]; · iexact So2
    iexact So3
  iapply (slotsL_join (F := F) c)
  isplitl [Sl0]; · iexact Sl0
  isplitl [Sl1]; · iexact Sl1
  isplitl [Sl2]; · iexact Sl2
  iexact Sl3

theorem waits (c : Dev nD) : (levAts L lv : sProp 𝕄) ⊢ Pipeline.cellsWaits cfgs (dats m ρ) () 0 c :=
  Pipeline.cellsWaits_intro cfgs (dats m ρ) () 0 c fun w s t =>
    mayWait c _ 0 (Nat.le_of_eq (by fin_cases w <;> fin_cases s <;> rfl)) (by
      rcases t with ⟨_ | _, ht⟩
      · exact above_O₀ c (by decide)
      · exact above_zero 0)

/-! ### The run -/

/-- What device `c`'s array of window `w` holds at the end. -/
def finalA (c : Dev nD) (w : Fin cfg0.W) : Buf (Elt F) ((cfg0.win w).arr.view.loc (c : Thread nD τ)) := (dats m ρ 0 c).arrAt w cfg0.N

/-- The final states: every device's arrays at their computed contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values, from any memory with every counter zero: every weakly fair run of
    the kernel ends, with each device's arrays at their computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_hyper m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array holds at the end what it held at the start. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

/-- Every run ends with the five argument arrays as they were, every semaphore at zero and the result array as computed. -/
theorem run_kept : θ_run defs (onTc (τ := τ) (main (F := F))) ⟨m, fun _ => 0, ρ⟩ (fun r => (∀ c : Dev nD,
      r.2.mem ((c : Thread nD τ).loc main_v1) = finalA m ρ c 5
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨h.1 c 5, (h.1 c 0).trans (finalA_in m ρ c 0 rfl), (h.1 c 1).trans (finalA_in m ρ c 1 rfl),
      (h.1 c 2).trans (finalA_in m ρ c 2 rfl), (h.1 c 3).trans (finalA_in m ρ c 3 rfl), (h.1 c 4).trans (finalA_in m ρ c 4 rfl)⟩, h.2⟩) (run_main m ρ)

end Launch

end Cert.KernelIdeal.Hyper

end
-- ==== Proof.Value.Heads.lean ====
/-
# One device's arithmetic, read at an index

On the extended reals: the projected queries, a device's attention totals and denominators over its own 2048 keys,
the message a device sends, and the last product with the output weights, each at one row and one column. Column
`colOf h d` of an attention row is coordinate `d` of head `h`; heads 0 to 3 read key group 0, heads 4 to 7 group 1.
-/
module

public import proofs.«01_k».proof.Proof.KernelIdeal.Schedule
public import Idealize.ShloMosaic.Lib.Pointwise

@[expose] public section

noncomputable section

namespace Cert.Attn

open Cert.KernelIdeal Cert.KernelIdeal.Gen Cert.KernelIdeal.Hyper Idealize.ShloMosaic

/-- Coordinate `d` of head `h`, as a column of the attention row. -/
def colOf (h : Fin 8) (d : Fin 128) : Fin 1024 := ⟨h.val * 128 + d.val, by have := h.isLt; have := d.isLt; omega⟩
/-- The key group that head `h` reads. -/
def grp (h : Fin 8) : Fin 2 := ⟨h.val / 4, by have := h.isLt; omega⟩

/-- The kernel's named scale: one over the square root of the head width. -/
def scale : EReal := ((Real.sqrt 128)⁻¹ : ℝ)

/-- The table of names gives it this value. -/
theorem named_scale : Named.named (F := Ideal) κ "scale" (φ := .f32) 0x3DB504F3#32 = scale :=
  IdealRules.named_const.ideal_named_scalar _ _ _ _ rfl

/-- The query row `i` of head `h` against the key `j` of its group. -/
def dotQK (q : FVec Ideal S512x1024 .bf16) (k : Vec Ideal S1x2048x2x128 .bf16) (i : Fin 512) (h : Fin 8) (j : Fin 2048) :
    EReal :=
  ∑ e : Fin 128, q (ix2 i (colOf h e)) * k (ix4 0 j (grp h) e)

theorem pay1_apply (x : Vec Ideal S1x512x1024 .bf16) (w : Vec Ideal S1024x1024 .bf16) (i : Fin 512) (n : Fin 1024) :
    k0_pay1 (F := Ideal) x w (ix2 i n) = ((∑ a : Fin 1024, x (ix3 0 i a) * w (ix2 a n)) * scale : EReal) := by
  pointwise [k0_pay1]
  rw [named_scale]

theorem pay3_apply (v : Vec Ideal S1x2048x2x128 .bf16) (j : Fin 2048) (n : Fin 256) (g : Fin 2) (d : Fin 128)
    (hn : n.val = g.val * 128 + d.val) : k0_pay3 (F := Ideal) v (ix2 j n) = v (ix4 0 j g d) := by
  pointwise [k0_pay3]
  have := d.isLt
  exact congrArg₂ (fun a b => v (ix4 0 j a b)) (Fin.ext (by simp only; omega)) (Fin.ext (by simp only; omega))

theorem pay2_apply (v : Vec Ideal S1x2048x2x128 .bf16) (j : Fin 2048) (n : Fin 256) (g : Fin 2) (d : Fin 128)
    (hn : n.val = g.val * 128 + d.val) : k0_pay2 (F := Ideal) v (ix2 j n) = v (ix4 0 j g d) := by
  pointwise [k0_pay2]
  have := d.isLt
  exact congrArg₂ (fun a b => v (ix4 0 j a b)) (Fin.ext (by simp only; omega)) (Fin.ext (by simp only; omega))

/-- A sum over a head's columns, however its indices are written, is the head's score. -/
theorem dotQK_of (q : FVec Ideal S512x1024 .bf16) (k : Vec Ideal S1x2048x2x128 .bf16) (i : Fin 512) (h : Fin 8)
    (j : Fin 2048) (a : Fin 128 → Fin 1024) (b : Fin 128 → Fin 256) (ha : ∀ e, (a e).val = h.val * 128 + e.val)
    (hb : ∀ e, (b e).val = h.val / 4 * 128 + e.val) :
    (∑ e : Fin 128, q (ix2 i (a e)) * k0_pay2 (F := Ideal) k (ix2 j (b e)) : EReal) = dotQK q k i h j :=
  Finset.sum_congr rfl fun e _ =>
    congrArg₂ (· * ·) (congrArg (fun n => q (ix2 i n)) (Fin.ext (ha e))) (pay2_apply k j (b e) (grp h) e (hb e))

variable (q : FVec Ideal S512x1024 .bf16) (k v : Vec Ideal S1x2048x2x128 .bf16) (i : Fin 512)

theorem exp0 (j : Fin 2048) : k0_pay4 (F := Ideal) q k (ix2 i j) = Ideal.exp (dotQK q k i 0 j) := by
  pointwise [k0_pay4]
  exact congrArg Ideal.exp (dotQK_of q k i 0 j _ _ (fun e => by simp) (fun e => by simp))
theorem exp1 (j : Fin 2048) : k0_pay7 (F := Ideal) q k (ix2 i j) = Ideal.exp (dotQK q k i 1 j) := by
  pointwise [k0_pay7]
  exact congrArg Ideal.exp (dotQK_of q k i 1 j _ _ (fun e => by simp) (fun e => by simp))
theorem exp2 (j : Fin 2048) : k0_pay10 (F := Ideal) q k (ix2 i j) = Ideal.exp (dotQK q k i 2 j) := by
  pointwise [k0_pay10]
  exact congrArg Ideal.exp (dotQK_of q k i 2 j _ _ (fun e => by simp) (fun e => by simp))
theorem exp3 (j : Fin 2048) : k0_pay13 (F := Ideal) q k (ix2 i j) = Ideal.exp (dotQK q k i 3 j) := by
  pointwise [k0_pay13]
  exact congrArg Ideal.exp (dotQK_of q k i 3 j _ _ (fun e => by simp) (fun e => by simp))
theorem exp4 (j : Fin 2048) :
    k0_pay17 (F := Ideal) (k0_pay2 k) (k0_pay16 q) (ix2 i j) = Ideal.exp (dotQK q k i 4 j) := by
  pointwise [k0_pay17, k0_pay16]
  exact congrArg Ideal.exp (dotQK_of q k i 4 j _ _ (fun e => by simp) (fun e => by simp))
theorem exp5 (j : Fin 2048) : k0_pay18 (F := Ideal) q (k0_pay2 k) (ix2 i j) = Ideal.exp (dotQK q k i 5 j) := by
  pointwise [k0_pay18]
  exact congrArg Ideal.exp (dotQK_of q k i 5 j _ _ (fun e => by simp) (fun e => by simp))
theorem exp6 (j : Fin 2048) : k0_pay19 (F := Ideal) q (k0_pay2 k) (ix2 i j) = Ideal.exp (dotQK q k i 6 j) := by
  pointwise [k0_pay19]
  exact congrArg Ideal.exp (dotQK_of q k i 6 j _ _ (fun e => by simp) (fun e => by simp))
theorem exp7 (j : Fin 2048) : k0_pay20 (F := Ideal) q (k0_pay2 k) (ix2 i j) = Ideal.exp (dotQK q k i 7 j) := by
  pointwise [k0_pay20]
  exact congrArg Ideal.exp (dotQK_of q k i 7 j _ _ (fun e => by simp) (fun e => by simp))

/-- A device's denominator of head `h`: the exponentials of its own keys' scores, added. -/
theorem locL_apply (h : Fin 8) :
    locL (F := Ideal) q k (ix2 i h) = (∑ j : Fin 2048, Ideal.exp (dotQK q k i h j) : EReal) := by
  fin_cases h
  · pointwise [locL, k0_pay22, k0_pay5]
    exact Finset.sum_congr rfl fun j _ => exp0 q k i j
  · pointwise [locL, k0_pay22, k0_pay8]
    exact Finset.sum_congr rfl fun j _ => exp1 q k i j
  · pointwise [locL, k0_pay22, k0_pay11]
    exact Finset.sum_congr rfl fun j _ => exp2 q k i j
  · pointwise [locL, k0_pay22, k0_pay14]
    exact Finset.sum_congr rfl fun j _ => exp3 q k i j
  · pointwise [locL, k0_pay22]
    exact Finset.sum_congr rfl fun j _ => exp4 q k i j
  · pointwise [locL, k0_pay22]
    exact Finset.sum_congr rfl fun j _ => exp5 q k i j
  · pointwise [locL, k0_pay22]
    exact Finset.sum_congr rfl fun j _ => exp6 q k i j
  · pointwise [locL, k0_pay22]
    exact Finset.sum_congr rfl fun j _ => exp7 q k i j

/-- A head's weighted values, however the value's column is written. -/
theorem weighted_of (h : Fin 8) (d : Fin 128) (p : Fin 2048 → EReal) (b : Fin 2048 → Fin 256)
    (hp : ∀ j, p j = Ideal.exp (dotQK q k i h j)) (hb : ∀ j, (b j).val = h.val / 4 * 128 + d.val) :
    (∑ j : Fin 2048, p j * k0_pay3 (F := Ideal) v (ix2 j (b j)) : EReal)
      = ∑ j : Fin 2048, Ideal.exp (dotQK q k i h j) * v (ix4 0 j (grp h) d) :=
  Finset.sum_congr rfl fun j _ => congrArg₂ (· * ·) (hp j) (pay3_apply v j (b j) (grp h) d (hb j))

/-- A device's attention total of head `h`: its own values, weighted by the exponentials, added. -/
theorem locO_apply (h : Fin 8) (d : Fin 128) :
    locO (F := Ideal) q k v (ix2 i (colOf h d))
      = (∑ j : Fin 2048, Ideal.exp (dotQK q k i h j) * v (ix4 0 j (grp h) d) : EReal) := by
  have hd := d.isLt
  pointwise [locO, k0_pay21, k0_pay6, k0_pay9, k0_pay12, k0_pay15]
  fin_cases h
  · rw [dif_pos (by simp [colOf])]
    exact weighted_of q k v i 0 d _ _ (exp0 q k i) (fun j => by simp [colOf])
  · rw [dif_neg (by simp [colOf]), dif_pos (by simp [colOf])]
    exact weighted_of q k v i 1 d _ _ (exp1 q k i) (fun j => by simp [colOf])
  · rw [dif_neg (by simp [colOf]; omega), dif_neg (by simp [colOf]; omega), dif_pos (by simp [colOf]; omega)]
    exact weighted_of q k v i 2 d _ _ (exp2 q k i) (fun j => by simp [colOf]; omega)
  · rw [dif_neg (by simp [colOf]; omega), dif_neg (by simp [colOf]; omega), dif_neg (by simp [colOf]; omega), dif_pos (by simp [colOf]; omega)]
    exact weighted_of q k v i 3 d _ _ (exp3 q k i) (fun j => by simp [colOf]; omega)
  · rw [dif_neg (by simp [colOf]; omega), dif_neg (by simp [colOf]; omega), dif_neg (by simp [colOf]; omega), dif_neg (by simp [colOf]; omega), dif_pos (by simp [colOf]; omega)]
    exact weighted_of q k v i 4 d _ _ (exp4 q k i) (fun j => by simp [colOf]; omega)
  · rw [dif_neg (by simp [colOf]; omega), dif_neg (by simp [colOf]; omega), dif_neg (by simp [colOf]; omega), dif_neg (by simp [colOf]; omega), dif_neg (by simp [colOf]; omega), dif_pos (by simp [colOf]; omega)]
    exact weighted_of q k v i 5 d _ _ (exp5 q k i) (fun j => by simp [colOf]; omega)
  · rw [dif_neg (by simp [colOf]; omega), dif_neg (by simp [colOf]; omega), dif_neg (by simp [colOf]; omega), dif_neg (by simp [colOf]; omega), dif_neg (by simp [colOf]; omega), dif_neg (by simp [colOf]; omega), dif_pos (by simp [colOf]; omega)]
    exact weighted_of q k v i 6 d _ _ (exp6 q k i) (fun j => by simp [colOf]; omega)
  · rw [dif_neg (by simp [colOf]; omega), dif_neg (by simp [colOf]; omega), dif_neg (by simp [colOf]; omega), dif_neg (by simp [colOf]; omega), dif_neg (by simp [colOf]; omega), dif_neg (by simp [colOf]; omega), dif_neg (by simp [colOf]; omega)]
    exact weighted_of q k v i 7 d _ _ (exp7 q k i) (fun j => by simp [colOf]; omega)

theorem packO_eq (o : FVec Ideal S512x1024 .f32) : packO (F := Ideal) o = o := by
  funext j
  pointwise [packO]
  try rfl
theorem packL_eq (l : FVec Ideal S512x8 .f32) : packL (F := Ideal) l = l := by
  funext j
  pointwise [packL]
  try rfl

/-- The head of a column. -/
def headOf (n : Fin 1024) : Fin 8 := ⟨n.val / 128, by have := n.isLt; omega⟩

/-- One head's column, normalised, however the column and the head are written. -/
theorem normalised_of (l l' : FVec Ideal S512x8 .f32) (o : FVec Ideal S512x1024 .f32) (c c' : Fin 1024) (h : Fin 8)
    (hc : c'.val = c.val) (hh : h.val = c.val / 128) :
    o (ix2 i c') * Ideal.div 1 (l (ix2 i h) + l' (ix2 i h))
      = (o (ix2 i c) * Ideal.div 1 (l (ix2 i (headOf c)) + l' (ix2 i (headOf c))) : EReal) := by
  obtain rfl : c' = c := Fin.ext hc
  obtain rfl : h = headOf c' := Fin.ext hh
  rfl

/-- The last step: each head's total times one over its denominator, then the product with the output weights. -/
theorem pay39_apply (l l' : FVec Ideal S512x8 .f32) (o : FVec Ideal S512x1024 .f32) (w : Vec Ideal S1024x1024 .bf16)
    (n : Fin 1024) :
    k0_pay39 (F := Ideal) l o l' w (ix3 0 i n)
      = (∑ c : Fin 1024, o (ix2 i c) * Ideal.div 1 (l (ix2 i (headOf c)) + l' (ix2 i (headOf c))) * w (ix2 c n) : EReal) := by
  pointwise [k0_pay39]
  refine Finset.sum_congr rfl fun c _ => ?_
  refine congrArg (· * w (ix2 c n)) ?_
  have hc := c.isLt
  split_ifs <;> exact normalised_of i l l' o c _ _ (by first | rfl | (simp only; omega)) (by simp <;> omega)

end Cert.Attn
-- ==== Proof.Value.Butterfly.lean ====
/-
# The four exchange rounds add the sixteen devices' parts

In round `r` every device adds the running total of the device whose number differs in bit `r`. After four rounds every
device holds the sum over all sixteen, on the extended reals, whatever the parts are.
-/
module

public import proofs.«01_k».proof.Proof.Value.Heads

@[expose] public section

noncomputable section

namespace Cert.Attn

open Cert.KernelIdeal Cert.KernelIdeal.Gen Cert.KernelIdeal.Hyper Idealize.ShloMosaic

/-- The devices reached from one by flipping each choice of its four bits. -/
def reach (c : Dev nD) : List (Dev nD) :=
  [c, peer 0 c, peer 1 c, peer 0 (peer 1 c), peer 2 c, peer 0 (peer 2 c), peer 1 (peer 2 c), peer 0 (peer 1 (peer 2 c)),
   peer 3 c, peer 0 (peer 3 c), peer 1 (peer 3 c), peer 0 (peer 1 (peer 3 c)), peer 2 (peer 3 c), peer 0 (peer 2 (peer 3 c)),
   peer 1 (peer 2 (peer 3 c)), peer 0 (peer 1 (peer 2 (peer 3 c)))]

/-- Those are all sixteen devices, each once. -/
theorem reach_all : ∀ c : Dev nD, (Finset.univ : Finset (Dev nD)).val = (reach c : Multiset (Dev nD)) := by
  decide

/-- Four rounds of adding the partner's total leave the sum over all devices. -/
theorem butterfly (f : ℕ → Dev nD → EReal) (hf : ∀ r c, f (r + 1) c = f r c + f r (peer r c)) (c : Dev nD) :
    f 4 c = ∑ d : Dev nD, f 0 d := by
  have hs : (∑ d : Dev nD, f 0 d) = ((reach c).map (f 0)).sum := by
    rw [Finset.sum, reach_all c, Multiset.map_coe, Multiset.sum_coe]
  rw [hs, hf 3, hf 2, hf 2, hf 1, hf 1, hf 1, hf 1]
  simp only [hf 0, reach, List.map, List.sum_cons, List.sum_nil]
  abel

variable (m : (ℓ : Loc nD τ sig) → Buf (Elt Ideal) ℓ)

/-- One round, at an index: the partner's total is added. -/
theorem oAt_step (r : ℕ) (d : Dev nD) (i : Fin 512) (n : Fin 1024) :
    oAt m (r + 1) d (ix2 i n) = (oAt m r d (ix2 i n) + oAt m r (peer r d) (ix2 i n) : EReal) := by
  show addO (oAt m r d) (packO (oAt m r (peer r d))) (ix2 i n) = _
  rw [packO_eq]
  rfl
theorem lAt_step (r : ℕ) (d : Dev nD) (i : Fin 512) (h : Fin 8) :
    lAt m (r + 1) d (ix2 i h) = (lAt m r d (ix2 i h) + lAt m r (peer r d) (ix2 i h) : EReal) := by
  show addL (lAt m r d) (packL (lAt m r (peer r d))) (ix2 i h) = _
  rw [packL_eq]
  rfl

/-- After the four rounds a device's attention total is the sum of all devices' own totals. -/
theorem oAt_four (c : Dev nD) (i : Fin 512) (n : Fin 1024) :
    oAt m 4 c (ix2 i n) = (∑ d : Dev nD, oAt m 0 d (ix2 i n) : EReal) :=
  butterfly (fun r d => oAt m r d (ix2 i n)) (fun r d => oAt_step m r d i n) c

/-- After the four rounds the denominator is the sum of all devices' own denominators. -/
theorem lAt_four (c : Dev nD) (i : Fin 512) (h : Fin 8) :
    (lAt m 3 c (ix2 i h) + packL (lAt m 3 (peer 3 c)) (ix2 i h) : EReal) = ∑ d : Dev nD, lAt m 0 d (ix2 i h) := by
  rw [packL_eq]
  exact (lAt_step m 3 c i h).symm.trans (butterfly (fun r d => lAt m r d (ix2 i h)) (fun r d => lAt_step m r d i h) c)

end Cert.Attn
-- ==== Proof.Value.Reference.lean ====
/-
# The reference, read at an index

The reference's result at row `i` and column `n`: over every head's coordinates, the softmax average of the values, with
the maximum score subtracted, against the output weights.
-/
module

public import proofs.«01_k».proof.Proof.Gen.ReferenceIdeal.Run
public import proofs.«01_k».proof.Proof.Value.Heads

@[expose] public section

noncomputable section

namespace Cert.Attn

open Cert.ReferenceIdeal Cert.ReferenceIdeal.Gen Cert.ReferenceIdeal.Value Idealize.ShloMosaic

/-- The coordinate of a column within its head. -/
def coordOf (n : Fin 1024) : Fin 128 := ⟨n.val % 128, Nat.mod_lt _ (by decide)⟩

theorem colOf_headOf (n : Fin 1024) : colOf (headOf n) (coordOf n) = n := Fin.ext (by simp only [colOf, headOf, coordOf]; omega)

/-- The projected query, before any rounding or scaling. -/
def query (x : FVec Ideal S1x512x1024 .bf16) (w : FVec Ideal S1024x1024 .bf16) (i : Fin 512) (n : Fin 1024) : EReal :=
  ∑ a : Fin 1024, x (ix3 0 i a) * w (ix2 a n)

/-- The root of the head width, as the reference takes it. -/
def root : EReal := Ideal.sqrt (Ideal.ofBits .f32 0x43000000#32)

/-- It is the real root of 128. -/
theorem root_eq : root = (Real.sqrt 128 : ℝ) := by
  have h : Ideal.ofBits .f32 0x43000000#32 = ((128 : ℝ) : EReal) := by
    simp [Ideal.ofBits, Ideal.ieee, -EReal.coe_mul]
    norm_num
  unfold root
  rw [h, Ideal.sqrt_coe, if_neg (by norm_num)]

/-- Division by the root is multiplication by the kernel's scale, of any extended real. -/
theorem div_root (a : EReal) : Ideal.div a root = a * scale := by
  rw [root_eq, Ideal.div_coe (Real.sqrt_pos.mpr (by norm_num)).ne', one_div]
  rfl

/-- The reference's score: the product first, the division by the root after. -/
def score (x : FVec Ideal S1x512x1024 .bf16) (w : FVec Ideal S1024x1024 .bf16) (k : FVec Ideal S1x32768x2x128 .bf16)
    (i : Fin 512) (h : Fin 8) (j : Fin 32768) : EReal :=
  Ideal.div (∑ e : Fin 128, query x w i (colOf h e) * k (ix4 0 j (grp h) e)) root

/-- The literal from which the reference's maximum starts. -/
def start : EReal := Ideal.ofBits .f32 0xFF800000#32

/-- It is minus infinity. -/
theorem start_eq : start = ⊥ := by
  unfold start
  simp [Ideal.ofBits, Ideal.ieee]

/-- The reference's average of the values `v` at the scores `s`. -/
def average (s : Fin 32768 → EReal) (v : Fin 32768 → EReal) : EReal :=
  Ideal.div
    (∑ j, v j * Ideal.exp (s j - Finset.univ.fold max start s))
    (∑ j, Ideal.exp (s j - Finset.univ.fold max start s))

variable (m : (ℓ : Loc nD τ sig) → Buf (Elt Ideal) ℓ)

theorem ref_apply (i : Fin 512) (n : Fin 1024) :
    res_out0 m 0 (ix3 0 i n)
      = (∑ c : Fin 1024,
          average
            (score (m (((0 : Dev nD).tc : Thread nD τ).loc main_arg0)) (m (((0 : Dev nD).tc : Thread nD τ).loc main_arg1))
              (m (((0 : Dev nD).tc : Thread nD τ).loc main_arg3)) i (headOf c))
            (fun j => m (((0 : Dev nD).tc : Thread nD τ).loc main_arg4) (ix4 0 j (grp (headOf c)) (coordOf c)))
          * m (((0 : Dev nD).tc : Thread nD τ).loc main_arg2) (ix2 c n) : EReal) := by
  pointwise [res_out0, res_main_v28]
  rfl

end Cert.Attn
-- ==== Proof.Value.Softmax.lean ====
/-
# Softmax without and with the maximum subtracted

On the extended reals. With real scores the two agree: subtracting the maximum multiplies every exponential by one and
the same positive real, which the division takes out again. The values that are averaged may be infinite.
-/
module

public import Idealize.ShloMosaic.PureOps.Ideal
public import Mathlib.Data.EReal.Operations

@[expose] public section

noncomputable section

namespace Cert.Attn

open Idealize.ShloMosaic

variable {ι : Type} [Fintype ι]

/-- A finite sum of reals, as an extended real. -/
theorem coe_sum (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A positive real factor goes into a finite sum of extended reals. -/
theorem coe_mul_sum (t : ℝ) (ht : 0 < t) (s : Finset ι) (f : ι → EReal) :
    (t : EReal) * ∑ j ∈ s, f j = ∑ j ∈ s, (t : EReal) * f j := by
  classical
  induction s using Finset.induction_on with
  | empty => simp
  | insert a s ha ih =>
    rw [Finset.sum_insert ha, Finset.sum_insert ha,
      EReal.left_distrib_of_nonneg_of_ne_top (by exact_mod_cast ht.le) (EReal.coe_ne_top t), ih]

/-- The maximum of finitely many reals, taken from minus infinity, is a real. -/
theorem fold_max_real [Nonempty ι] (s : ι → ℝ) :
    ∃ M : ℝ, Finset.univ.fold max (⊥ : EReal) (fun j => (s j : EReal)) = M := by
  classical
  have h : ∀ S : Finset ι, S = ∅ ∨ ∃ M : ℝ, S.fold max (⊥ : EReal) (fun j => (s j : EReal)) = M := by
    intro S
    induction S using Finset.induction_on with
    | empty => exact .inl rfl
    | insert a S ha ih =>
      refine .inr ?_
      rw [Finset.fold_insert ha]
      rcases ih with rfl | ⟨M, hM⟩
      · exact ⟨s a, by simp⟩
      · exact ⟨max (s a) M, by rw [hM]; exact (EReal.coe_strictMono.monotone.map_max (a := s a) (b := M)).symm⟩
  exact (h Finset.univ).resolve_left Finset.univ_nonempty.ne_empty

/-- The kernel's average, by one over the plain denominator, is the reference's, with the maximum subtracted. -/
theorem softmax_eq [Nonempty ι] (s : ι → ℝ) (v : ι → EReal) :
    (∑ j, Ideal.exp (s j : EReal) * v j) * Ideal.div 1 (∑ j, Ideal.exp (s j : EReal))
      = Ideal.div
          (∑ j, v j * Ideal.exp ((s j : EReal) - Finset.univ.fold max (⊥ : EReal) (fun j => (s j : EReal))))
          (∑ j, Ideal.exp ((s j : EReal) - Finset.univ.fold max (⊥ : EReal) (fun j => (s j : EReal)))) := by
  obtain ⟨M, hM⟩ := fold_max_real s
  rw [hM]
  have ht : 0 < Real.exp (-M) := Real.exp_pos _
  have he : ∀ j, Ideal.exp ((s j : EReal) - (M : EReal)) = ((Real.exp (-M) : ℝ) : EReal) * ((Real.exp (s j) : ℝ) : EReal) := by
    intro j
    rw [← EReal.coe_sub, Ideal.exp_coe, ← EReal.coe_mul, ← Real.exp_add]
    congr 2
    ring
  have hL : 0 < ∑ j, Real.exp (s j) := Finset.sum_pos (fun j _ => Real.exp_pos _) Finset.univ_nonempty
  have hn : (∑ j, v j * Ideal.exp ((s j : EReal) - (M : EReal)))
      = ((Real.exp (-M) : ℝ) : EReal) * ∑ j, Ideal.exp (s j : EReal) * v j := by
    rw [coe_mul_sum _ ht]
    refine Finset.sum_congr rfl fun j _ => ?_
    rw [he, Ideal.exp_coe, mul_comm, mul_assoc]
  have hd : (∑ j, Ideal.exp ((s j : EReal) - (M : EReal))) = ((Real.exp (-M) * ∑ j, Real.exp (s j) : ℝ) : EReal) := by
    rw [EReal.coe_mul, coe_sum, coe_mul_sum _ ht]
    exact Finset.sum_congr rfl fun j _ => he j
  have hk : (∑ j, Ideal.exp (s j : EReal)) = ((∑ j, Real.exp (s j) : ℝ) : EReal) := by
    rw [coe_sum]
    rfl
  rw [hn, hd]
  generalize (∑ j, Ideal.exp (s j : EReal) * v j) = A
  rw [hk, Ideal.div_coe hL.ne', Ideal.div_coe (mul_pos ht hL).ne', one_mul, mul_comm _ A, mul_assoc, ← EReal.coe_mul]
  congr 2
  field_simp

end Cert.Attn
-- ==== Proof.Value.Equation.lean ====
/-
# The kernel's average is the reference's

With finite queries, query weights and keys every score is a real. Then scaling the query before the product or the
score after it is the same, the sixteen devices' sums over 2048 keys each are one sum over all 32768, and the average
without the maximum subtracted is the average with it.
-/
module

public import proofs.«01_k».proof.Proof.Value.Reference
public import proofs.«01_k».proof.Proof.Value.Softmax

@[expose] public section

noncomputable section

namespace Cert.Attn

open Cert.KernelIdeal Cert.KernelIdeal.Gen Cert.KernelIdeal.Hyper Idealize.ShloMosaic

/-- An extended real that is a real. -/
def IsReal (a : EReal) : Prop := ∃ r : ℝ, a = r

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.sum {ι : Type} [Fintype ι] {f : ι → EReal} (h : ∀ j, IsReal (f j)) : IsReal (∑ j, f j) := by
  choose r hr using h
  exact ⟨∑ j, r j, by rw [coe_sum]; exact Finset.sum_congr rfl fun j _ => hr j⟩

/-- A real factor on the first factors of a finite sum of products of reals comes out of the sum. -/
theorem sum_scaled {ι : Type} [Fintype ι] {f g : ι → EReal} {t : EReal} (hf : ∀ j, IsReal (f j)) (hg : ∀ j, IsReal (g j))
    (ht : IsReal t) : ∑ j, f j * t * g j = (∑ j, f j * g j) * t := by
  choose a ha using hf
  choose b hb using hg
  obtain ⟨c, rfl⟩ := ht
  have h1 : (∑ j, f j * (c : EReal) * g j) = ((∑ j, a j * c * b j : ℝ) : EReal) := by
    rw [coe_sum]
    refine Finset.sum_congr rfl fun j _ => ?_
    rw [ha, hb, EReal.coe_mul, EReal.coe_mul]
  have h2 : (∑ j, f j * g j) = ((∑ j, a j * b j : ℝ) : EReal) := by
    rw [coe_sum]
    refine Finset.sum_congr rfl fun j _ => ?_
    rw [ha, hb, EReal.coe_mul]
  rw [h1, h2, ← EReal.coe_mul, Finset.sum_mul]
  exact congrArg _ (Finset.sum_congr rfl fun j _ => by ring)

theorem scale_real : IsReal scale := ⟨_, rfl⟩

/-- The position, among all keys, of key `j` of device `d`. -/
def keyAt (d : Fin 16) (j : Fin 2048) : Fin 32768 := ⟨d.val * 2048 + j.val, by have := d.isLt; have := j.isLt; omega⟩

variable (x : Vec Ideal S1x512x1024 .bf16) (w : Vec Ideal S1024x1024 .bf16)
  (k v : FVec Ideal Cert.ReferenceIdeal.S1x32768x2x128 .bf16) (kd vd : Fin 16 → Vec Ideal S1x2048x2x128 .bf16)

/-- A device's score of one of its keys is the reference's score of that key. -/
theorem dotQK_eq (hx : ∀ i a, IsReal (x (ix3 0 i a))) (hw : ∀ a n, IsReal (w (ix2 a n)))
    (hk : ∀ j g e, IsReal (k (ix4 0 j g e))) (hkd : ∀ d j g e, kd d (ix4 0 j g e) = k (ix4 0 (keyAt d j) g e))
    (d : Fin 16) (i : Fin 512) (h : Fin 8) (j : Fin 2048) :
    dotQK (k0_pay1 (F := Ideal) x w) (kd d) i h j = score x w k i h (keyAt d j) := by
  unfold dotQK score
  rw [div_root]
  refine Eq.trans (Finset.sum_congr rfl fun e _ => ?_)
    (sum_scaled (f := fun e => query x w i (colOf h e)) (g := fun e => k (ix4 0 (keyAt d j) (grp h) e))
      (fun e => IsReal.sum fun a => (hx i a).mul (hw a _)) (fun e => hk _ _ _) scale_real)
  rw [pay1_apply, hkd]
  rfl

/-- The reference's score is a real. -/
theorem score_real (hx : ∀ i a, IsReal (x (ix3 0 i a))) (hw : ∀ a n, IsReal (w (ix2 a n)))
    (hk : ∀ j g e, IsReal (k (ix4 0 j g e))) (i : Fin 512) (h : Fin 8) (j : Fin 32768) : IsReal (score x w k i h j) := by
  unfold score
  rw [div_root]
  exact (IsReal.sum fun e => (IsReal.sum fun a => (hx i a).mul (hw a _)).mul (hk _ _ _)).mul scale_real

/-- A sum over all keys, device by device. -/
theorem sum_keys (f : Fin 32768 → EReal) : (∑ d : Fin 16, ∑ j : Fin 2048, f (keyAt d j)) = ∑ j : Fin 32768, f j :=
  (Fin.sum_univ_tiles 16 2048 rfl f).symm

/-- All devices' totals times one over all devices' denominators: the reference's average. -/
theorem average_eq (hx : ∀ i a, IsReal (x (ix3 0 i a))) (hw : ∀ a n, IsReal (w (ix2 a n)))
    (hk : ∀ j g e, IsReal (k (ix4 0 j g e))) (hkd : ∀ d j g e, kd d (ix4 0 j g e) = k (ix4 0 (keyAt d j) g e))
    (hvd : ∀ d j g e, vd d (ix4 0 j g e) = v (ix4 0 (keyAt d j) g e)) (i : Fin 512) (h : Fin 8) (c : Fin 128) :
    (∑ d : Fin 16, locO (F := Ideal) (k0_pay1 x w) (kd d) (vd d) (ix2 i (colOf h c)) : EReal)
        * Ideal.div 1 (∑ d : Fin 16, locL (F := Ideal) (k0_pay1 x w) (kd d) (ix2 i h) : EReal)
      = average (score x w k i h) (fun j => v (ix4 0 j (grp h) c)) := by
  have h1 : (∑ d : Fin 16, locO (F := Ideal) (k0_pay1 x w) (kd d) (vd d) (ix2 i (colOf h c)) : EReal)
      = ∑ j : Fin 32768, Ideal.exp (score x w k i h j) * v (ix4 0 j (grp h) c) := by
    rw [← sum_keys]
    refine Finset.sum_congr rfl fun d _ => ?_
    rw [locO_apply]
    refine Finset.sum_congr rfl fun j _ => ?_
    rw [dotQK_eq x w k kd hx hw hk hkd, hvd]
  have h2 : (∑ d : Fin 16, locL (F := Ideal) (k0_pay1 x w) (kd d) (ix2 i h) : EReal)
      = ∑ j : Fin 32768, Ideal.exp (score x w k i h j) := by
    rw [← sum_keys]
    refine Finset.sum_congr rfl fun d _ => ?_
    rw [locL_apply]
    refine Finset.sum_congr rfl fun j _ => ?_
    rw [dotQK_eq x w k kd hx hw hk hkd]
  rw [h1, h2]
  choose s hs using score_real x w k hx hw hk i h
  have hs' : score x w k i h = fun j => (s j : EReal) := funext hs
  rw [hs']
  unfold average
  rw [start_eq]
  haveI : Nonempty (Fin 32768) := ⟨0⟩
  exact softmax_eq s (fun j => v (ix4 0 j (grp h) c))

end Cert.Attn
-- ==== Proof.Value.Windows.lean ====
/-
# What the windows read and write

The launch's one grid point stages each argument whole and writes the whole result back: the arrays that the body's
arithmetic reads are the arguments themselves, and the result array is what the body stored.
-/
module

public import proofs.«01_k».proof.Proof.KernelIdeal.Launch
public import Idealize.ShloMosaic.Lib.Pipeline.ValueKit

@[expose] public section

noncomputable section

namespace Cert.Attn

open Cert.KernelIdeal Cert.KernelIdeal.Gen Cert.KernelIdeal.Hyper Idealize.ShloMosaic Idealize.ShloMosaic.TcCoe

variable (m : (ℓ : Loc nD τ sig) → Buf (Elt Ideal) ℓ) (ρ : Dev nD → PrngReg) (c : Dev nD)

theorem xIn_eq : xIn m c = m ((c : Thread nD τ).loc main_arg0) :=
  funext fun y => congrArg (m ((c : Thread nD τ).loc main_arg0))
    (funext fun a => Fin.ext (win0_0.rect_emb_val_of_index_zero (0 : Fin 1) a rfl y))
theorem wqIn_eq : wqIn m c = m ((c : Thread nD τ).loc main_arg1) :=
  funext fun y => congrArg (m ((c : Thread nD τ).loc main_arg1))
    (funext fun a => Fin.ext (win0_1.rect_emb_val_of_index_zero (0 : Fin 1) a rfl y))
theorem woIn_eq : woIn m c = m ((c : Thread nD τ).loc main_arg2) :=
  funext fun y => congrArg (m ((c : Thread nD τ).loc main_arg2))
    (funext fun a => Fin.ext (win0_2.rect_emb_val_of_index_zero (0 : Fin 1) a rfl y))
theorem kIn_eq : kIn m c = m ((c : Thread nD τ).loc main_arg3) :=
  funext fun y => congrArg (m ((c : Thread nD τ).loc main_arg3))
    (funext fun a => Fin.ext (win0_3.rect_emb_val_of_index_zero (0 : Fin 1) a rfl y))
theorem vIn_eq : vIn m c = m ((c : Thread nD τ).loc main_arg4) :=
  funext fun y => congrArg (m ((c : Thread nD τ).loc main_arg4))
    (funext fun a => Fin.ext (win0_4.rect_emb_val_of_index_zero (0 : Fin 1) a rfl y))

theorem final_eq : finalA m ρ c 5 = outAt m c := by
  refine (dats m ρ 0 c).arrAt_eq_of_after_last 5 t0_0 (by decide +kernel) _ fun j => ?_
  blk_simp
  rfl

end Cert.Attn
-- ==== Proof.Value.Result.lean ====
/-
# The kernel's result is the reference's

Index by index, from memories that agree: every device holds the same queries and weights as the reference, and its own
2048 of the reference's keys and values.
-/
module

public import proofs.«01_k».proof.Defs
public import proofs.«01_k».proof.Proof.Gen.Pre_finite_scores_KernelIdeal
public import proofs.«01_k».proof.Proof.Value.Butterfly
public import proofs.«01_k».proof.Proof.Value.Equation
public import proofs.«01_k».proof.Proof.Value.Windows
public import Idealize.ShloMosaic.Lib.LayoutAt

@[expose] public section

noncomputable section

namespace Cert.Attn

open Cert.KernelIdeal Cert.KernelIdeal.Gen Cert.KernelIdeal.Hyper Idealize.ShloMosaic Idealize.ShloMosaic.TcCoe

/-! ## What the precondition gives -/

/-- The literal of the precondition's comparison is plus infinity. -/
theorem posInf : Ideal.ofBits .f32 0x7F800000#32 = (⊤ : EReal) := by
  simp [Ideal.ofBits, Ideal.ieee]

/-- A magnitude below infinity is a real's. -/
theorem real_of_bit {a : EReal} (h : Ideal.cmp .olt (max a (-a)) (Ideal.ofBits .f32 0x7F800000#32) = 1#1) : IsReal a := by
  rw [posInf] at h
  induction a using EReal.rec with
  | bot => simp [Ideal.cmp] at h
  | coe r => exact ⟨r, rfl⟩
  | top => simp [Ideal.cmp] at h

section Pre

variable (m : (ℓ : Loc nD τ sig) → Buf (Elt Ideal) ℓ)

theorem pre_x (h : Cert.Pre_KernelIdeal_finite_scores_KernelIdeal m) (c : Dev nD) (i : Fin 512) (a : Fin 1024) :
    IsReal (m ((c : Thread nD τ).loc main_arg0) (ix3 0 i a)) :=
  real_of_bit (congrFun (h c).1 (ix3 0 i a))
theorem pre_w (h : Cert.Pre_KernelIdeal_finite_scores_KernelIdeal m) (c : Dev nD) (a n : Fin 1024) :
    IsReal (m ((c : Thread nD τ).loc main_arg1) (ix2 a n)) :=
  real_of_bit (congrFun (h c).2.1 (ix2 a n))
theorem pre_k (h : Cert.Pre_KernelIdeal_finite_scores_KernelIdeal m) (c : Dev nD) (j : Fin 2048) (g : Fin 2) (e : Fin 128) :
    IsReal (m ((c : Thread nD τ).loc main_arg3) (ix4 0 j g e)) :=
  real_of_bit (congrFun (h c).2.2 (ix4 0 j g e))

end Pre

/-! ## A device's block of keys or values -/

/-- A device's key `j` is the whole array's key at its position. -/
theorem block_at (d : Fin 16) (v : (⟨4, ![1, 32768, 2, 128]⟩ : Shape).Idx → EReal) (j : Fin 2048) (g : Fin 2) (e : Fin 128) :
    Layout.block ⟨4, ![1, 2048, 2, 128]⟩ ⟨4, ![1, 32768, 2, 128]⟩ 1 16 d v (by decide) (ix4 0 j g e) = v (ix4 0 (keyAt d j) g e) := by
  refine congrArg v (funext fun b => Fin.ext ?_)
  fin_cases b
  · exact Layout.Tiles.idx_val_of_ne _ d _ _ (by decide)
  · exact Layout.Tiles.idx_val_self _ d _ _ rfl
  · exact Layout.Tiles.idx_val_of_ne _ d _ _ (by decide)
  · exact Layout.Tiles.idx_val_of_ne _ d _ _ (by decide)

/-! ## The equation -/

section Equation

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's argument arrays, by number. -/
abbrev ref (b : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc b

/-- Every device's memory against the reference's: queries and weights the same, keys and values its own block. -/
def Agree : Prop := ∀ c : Dev nD,
  m ((c : Thread nD τ).loc main_arg0) = m' (ref Cert.ReferenceIdeal.main_arg0)
  ∧ m ((c : Thread nD τ).loc main_arg1) = m' (ref Cert.ReferenceIdeal.main_arg1)
  ∧ m ((c : Thread nD τ).loc main_arg2) = m' (ref Cert.ReferenceIdeal.main_arg2)
  ∧ m ((c : Thread nD τ).loc main_arg3)
      = Layout.block ⟨4, ![1, 2048, 2, 128]⟩ ⟨4, ![1, 32768, 2, 128]⟩ 1 16 c (m' (ref Cert.ReferenceIdeal.main_arg3))
  ∧ m ((c : Thread nD τ).loc main_arg4)
      = Layout.block ⟨4, ![1, 2048, 2, 128]⟩ ⟨4, ![1, 32768, 2, 128]⟩ 1 16 c (m' (ref Cert.ReferenceIdeal.main_arg4))

/-- Every key of the reference is some device's, so it is a real. -/
theorem key_real (hpre : Cert.Pre_KernelIdeal_finite_scores_KernelIdeal m) (ha : Agree m m') (j : Fin 32768) (g : Fin 2)
    (e : Fin 128) : IsReal (m' (ref Cert.ReferenceIdeal.main_arg3) (ix4 0 j g e)) := by
  have hj := j.isLt
  have h := pre_k m hpre (⟨j.val / 2048, by omega⟩ : Fin 16) ⟨j.val % 2048, by omega⟩ g e
  rw [(ha (⟨j.val / 2048, by omega⟩ : Fin 16)).2.2.2.1, block_at] at h
  have hk : keyAt ⟨j.val / 2048, by omega⟩ ⟨j.val % 2048, by omega⟩ = j := Fin.ext (by simp only [keyAt]; omega)
  rw [hk] at h
  exact h

/-- A device's totals before the first round, in the reference's arrays. -/
theorem oAt_zero (ha : Agree m m') (d : Dev nD) :
    oAt m 0 d = locO (F := Ideal)
      (k0_pay1 (m' (ref Cert.ReferenceIdeal.main_arg0)) (m' (ref Cert.ReferenceIdeal.main_arg1)))
      (m ((d : Thread nD τ).loc main_arg3)) (m ((d : Thread nD τ).loc main_arg4)) := by
  show locO (k0_pay1 (xIn m d) (wqIn m d)) (kIn m d) (vIn m d) = _
  rw [xIn_eq, wqIn_eq, kIn_eq, vIn_eq, (ha d).1, (ha d).2.1]
theorem lAt_zero (ha : Agree m m') (d : Dev nD) :
    lAt m 0 d = locL (F := Ideal)
      (k0_pay1 (m' (ref Cert.ReferenceIdeal.main_arg0)) (m' (ref Cert.ReferenceIdeal.main_arg1)))
      (m ((d : Thread nD τ).loc main_arg3)) := by
  show locL (k0_pay1 (xIn m d) (wqIn m d)) (kIn m d) = _
  rw [xIn_eq, wqIn_eq, kIn_eq, (ha d).1, (ha d).2.1]

/-- What every device stores is the reference's result. -/
theorem out_eq (hpre : Cert.Pre_KernelIdeal_finite_scores_KernelIdeal m) (ha : Agree m m') (c : Dev nD) (i : Fin 512)
    (n : Fin 1024) : outAt m c (ix3 0 i n) = Cert.ReferenceIdeal.Value.res_out0 m' 0 (ix3 0 i n) := by
  have hx : ∀ i a, IsReal (m' (ref Cert.ReferenceIdeal.main_arg0) (ix3 0 i a)) := fun i a => by
    have := pre_x m hpre c i a
    rwa [(ha c).1] at this
  have hw : ∀ a n, IsReal (m' (ref Cert.ReferenceIdeal.main_arg1) (ix2 a n)) := fun a n => by
    have := pre_w m hpre c a n
    rwa [(ha c).2.1] at this
  have hkd : ∀ (d : Fin 16) j g e, m (((d : Dev nD) : Thread nD τ).loc main_arg3) (ix4 0 j g e)
      = m' (ref Cert.ReferenceIdeal.main_arg3) (ix4 0 (keyAt d j) g e) := fun d j g e => by
    rw [(ha d).2.2.2.1, block_at]
  have hvd : ∀ (d : Fin 16) j g e, m (((d : Dev nD) : Thread nD τ).loc main_arg4) (ix4 0 j g e)
      = m' (ref Cert.ReferenceIdeal.main_arg4) (ix4 0 (keyAt d j) g e) := fun d j g e => by
    rw [(ha d).2.2.2.2, block_at]
  refine Eq.trans (pay39_apply i (lAt m 3 c) (packL (lAt m 3 (peer 3 c))) (oAt m 4 c) (woIn m c) n) ?_
  refine Eq.trans ?_ (ref_apply m' i n).symm
  change @Eq EReal _ _
  refine Finset.sum_congr rfl fun q _ => ?_
  rw [lAt_four, oAt_four, woIn_eq, (ha c).2.2.1]
  refine congrArg (· * m' (ref Cert.ReferenceIdeal.main_arg2) (ix2 q n)) ?_
  have h := average_eq (m' (ref Cert.ReferenceIdeal.main_arg0)) (m' (ref Cert.ReferenceIdeal.main_arg1))
    (m' (ref Cert.ReferenceIdeal.main_arg3)) (m' (ref Cert.ReferenceIdeal.main_arg4))
    (fun d => m (((d : Dev nD) : Thread nD τ).loc main_arg3)) (fun d => m (((d : Dev nD) : Thread nD τ).loc main_arg4))
    hx hw (key_real m m' hpre ha) hkd hvd i (headOf q) (coordOf q)
  rw [colOf_headOf] at h
  refine Eq.trans ?_ h
  exact congrArg₂ (fun a b => a * Ideal.div 1 b)
    (Finset.sum_congr rfl fun d _ => by rw [oAt_zero m m' ha d])
    (Finset.sum_congr rfl fun d _ => by rw [lAt_zero m m' ha d])

/-- The result array of every device, whole. -/
theorem result_eq (hpre : Cert.Pre_KernelIdeal_finite_scores_KernelIdeal m) (ha : Agree m m') (ρ : Dev nD → PrngReg)
    (c : Dev nD) : finalA m ρ c 5 = Cert.ReferenceIdeal.Value.res_out0 m' 0 := by
  rw [final_eq]
  funext y
  have hy : y = ix3 0 (y 1) (y 2) := by
    funext b
    fin_cases b
    · exact Subsingleton.elim (α := Fin 1) _ _
    · rfl
    · rfl
  rw [hy]
  exact out_eq m m' hpre ha c (y 1) (y 2)

end Equation

end Cert.Attn
-- ==== Proof.lean ====
/-
# The certificate

The sixteen-device kernel and its idealization run to the end from every memory, keep their arguments and leave every
semaphore at zero; so does the reference; the idealization is the kernel's own text with the scale of the scores named 1/√128; and, with finite queries, query
weights and keys, every device ends with the reference's result, on the extended reals.
-/
module

public import proofs.«01_k».proof.Defs
public import proofs.«01_k».proof.Proof.Kernel.Launch
public import proofs.«01_k».proof.Proof.KernelIdeal.Launch
public import proofs.«01_k».proof.Proof.Value.Result
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import Idealize.ShloMosaic.Lib.Quiescent
public import Idealize.ShloMosaic.Adequacy
public import Idealize.ShloMosaic.Init

@[expose] public section

noncomputable section

namespace Cert.Proof

open Idealize.ShloMosaic Idealize.SL.Sem

/-- The kernel, on bits: it ends, keeps its arguments, and every semaphore ends at zero. -/
theorem frame_kernel : Cert.quiescent_Kernel := fun m ρ _ =>
  (θ_run Cert.Kernel.defs _ _).mono (fun _ h => ⟨fun c => (h.1 c).2, h.2⟩) (Cert.Kernel.Hyper.run_kept (F := Bits) m ρ)

/-- Its idealization, on extended reals, likewise. -/
theorem frame_kernelIdeal : Cert.quiescent_KernelIdeal := fun m ρ _ =>
  (θ_run Cert.KernelIdeal.defs _ _).mono (fun _ h => ⟨fun c => (h.1 c).2, h.2⟩) (Cert.KernelIdeal.Hyper.run_kept (F := Ideal) m ρ)

/-- The reference, which has no semaphore, likewise. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one literal that is named, the scale of the scores, is one over the root of the head width. -/
theorem preserves : Cert.preserves_Kernel_KernelIdeal :=
  IdealRules.named_const.statement Cert.KernelIdeal.κ "scale" .f32 0x3DB504F3#32 (((Real.sqrt 128)⁻¹ : ℝ) : EReal) rfl

/-- From memories that agree, with finite queries, query weights and keys, every device's result is the reference's. -/
theorem algebraic : Cert.algebraic_KernelIdeal_ReferenceIdeal_pre_finite_scores_KernelIdeal := fun m g m' g' hpre ha =>
  ⟨Cert.ReferenceIdeal.Value.res_out0 m' 0,
    (θ_run Cert.KernelIdeal.defs _ _).mono
      (fun _ h c => ⟨(h.1 c).1.trans (Cert.Attn.result_eq m m' hpre ha g c), (h.1 c).2⟩)
      (Cert.KernelIdeal.Hyper.run_kept (F := Ideal) m g),
    (θ_run Cert.ReferenceIdeal.defs _ _).mono (fun _ h => h 0) (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, (fun m ρ _ => frame_kernelIdeal m ρ trivial), frame_reference,
    (fun m ρ _ => frame_reference m ρ trivial), preserves, algebraic⟩

end Cert.Proof

end
